-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1536, 3072]⟩ ⟨2, ![1536, 12288]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![3072, 1536]⟩ ⟨2, ![12288, 1536]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x1536 : Shape := ⟨2, ![1536, 1536]⟩
abbrev S1536x3072 : Shape := ⟨2, ![1536, 3072]⟩
abbrev S3072x1536 : Shape := ⟨2, ![3072, 1536]⟩
abbrev S2x192x3072 : Shape := ⟨3, ![2, 192, 3072]⟩
abbrev S2x384x1536 : Shape := ⟨3, ![2, 384, 1536]⟩
abbrev S2x192x1536 : Shape := ⟨3, ![2, 192, 1536]⟩
abbrev S2 : Shape := ⟨1, ![2]⟩
abbrev S384x1536 : Shape := ⟨2, ![384, 1536]⟩
abbrev S1 : Shape := ⟨1, ![1]⟩
abbrev S_ : Shape := ⟨0, ![]⟩
abbrev S1x192x3072 : Shape := ⟨3, ![1, 192, 3072]⟩
abbrev S192x3072 : Shape := ⟨2, ![192, 3072]⟩
abbrev S1x384x1536 : Shape := ⟨3, ![1, 384, 1536]⟩
abbrev S384x3072 : Shape := ⟨2, ![384, 3072]⟩
abbrev S384x192 : Shape := ⟨2, ![384, 192]⟩
abbrev S384x384 : Shape := ⟨2, ![384, 384]⟩
abbrev S192x1536 : Shape := ⟨2, ![192, 1536]⟩
abbrev S1x192x1536 : Shape := ⟨3, ![1, 192, 1536]⟩

abbrev nBuf : Space → Nat
  | .hbm => 4
  | .vmem => 8
  | .smem => 0
  | _ => 0

abbrev bufTy : (tb : Table) → Fin (tcTables nBuf tb) → BufTy
  | .hbm, ⟨0, _⟩ => ⟨S1536x1536, .f32⟩
  | .hbm, ⟨1, _⟩ => ⟨S1536x3072, .f32⟩
  | .hbm, ⟨2, _⟩ => ⟨S3072x1536, .f32⟩
  | .hbm, ⟨3, _⟩ => ⟨S1536x1536, .bf16⟩
  | .local _ .vmem, ⟨0, _⟩ => ⟨S1536x1536, .f32⟩
  | .local _ .vmem, ⟨1, _⟩ => ⟨S1536x1536, .bf16⟩
  | .local _ .vmem, ⟨2, _⟩ => ⟨S1536x3072, .bf16⟩
  | .local _ .vmem, ⟨3, _⟩ => ⟨S3072x1536, .bf16⟩
  | .local _ .vmem, ⟨4, _⟩ => ⟨S2x192x3072, .f32⟩
  | .local _ .vmem, ⟨5, _⟩ => ⟨S2x384x1536, .f32⟩
  | .local _ .vmem, ⟨6, _⟩ => ⟨S2x192x1536, .bf16⟩
  | .local _ .vmem, ⟨7, _⟩ => ⟨S2x192x1536, .bf16⟩
  | _, _ => ⟨S1536x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32 : BitVec 32 := 384#32
  let v26 : BitVec 32 := Scalar.muli v2 c384_i32
  let v27 : Index := Scalar.indexCast v26
  let c0 : Index := 0#32
  ![v27.toNat, 0]
def k0_dev1 (d0 : Dev nD) : Nat :=
  let c0_i32_290 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_289 : BitVec 32 := 1#32
  let v351 : BitVec 32 := Scalar.muli v14 c1_i32_289
  let v352 : BitVec 32 := Scalar.addi c0_i32_290 v351
  v352.toNat
def k0_dev2 (d0 : Dev nD) : Nat :=
  let c0_i32_293 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_292 : BitVec 32 := 1#32
  let v353 : BitVec 32 := Scalar.muli v25 c1_i32_292
  let v354 : BitVec 32 := Scalar.addi c0_i32_293 v353
  v354.toNat
def k0_dev3 (d0 : Dev nD) : Nat :=
  let c0_i32_299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_298 : BitVec 32 := 1#32
  let v355 : BitVec 32 := Scalar.muli v25 c1_i32_298
  let v356 : BitVec 32 := Scalar.addi c0_i32_299 v355
  v356.toNat
def k0_dev4 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_308 : BitVec 32 := 1#32
  let v365 : BitVec 32 := Scalar.muli v14 c1_i32_308
  let v366 : BitVec 32 := Scalar.addi c0_i32_309 v365
  v366.toNat
def k0_off2 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v375 : BitVec 32 := Scalar.addi v2 c3_i32
  let c4_i32_314 : BitVec 32 := 4#32
  let c0_i32_315 : BitVec 32 := 0#32
  let v376 : BitVec 1 := Scalar.cmpi .eq c4_i32_314 c0_i32_315
  let c1_i32_316 : BitVec 32 := 1#32
  let v377 : BitVec 32 := Scalar.select v376 c1_i32_316 c4_i32_314
  let v378 : BitVec 32 := Scalar.remsi v375 v377
  let c0_i32_318 : BitVec 32 := 0#32
  let v380 : BitVec 1 := Scalar.cmpi .slt v378 c0_i32_318
  let c0_i32_319 : BitVec 32 := 0#32
  let v381 : BitVec 1 := Scalar.cmpi .slt v377 c0_i32_319
  let v382 : BitVec 1 := Scalar.xori v380 v381
  let c0_i32_317 : BitVec 32 := 0#32
  let v379 : BitVec 1 := Scalar.cmpi .ne v378 c0_i32_317
  let v383 : BitVec 1 := Scalar.andi v382 v379
  let v384 : BitVec 32 := Scalar.addi v378 v377
  let v385 : BitVec 32 := Scalar.select v383 v384 v378
  let c384_i32_328 : BitVec 32 := 384#32
  let v398 : BitVec 32 := Scalar.muli v385 c384_i32_328
  let c0_i32_329 : BitVec 32 := 0#32
  let v399 : BitVec 32 := Scalar.addi v398 c0_i32_329
  let v400 : Index := Scalar.indexCast v399
  let c0_330 : Index := 0#32
  ![v400.toNat, 0]
def k0_off3 (d0 : Dev nD) (c0_i32_320 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v386 : BitVec 32 := Scalar.addi v2 c0_i32_320
  let c1_i32_321 : BitVec 32 := 1#32
  let v387 : BitVec 32 := Scalar.addi v386 c1_i32_321
  let c4_i32_322 : BitVec 32 := 4#32
  let c0_i32_323 : BitVec 32 := 0#32
  let v388 : BitVec 1 := Scalar.cmpi .eq c4_i32_322 c0_i32_323
  let c1_i32_324 : BitVec 32 := 1#32
  let v389 : BitVec 32 := Scalar.select v388 c1_i32_324 c4_i32_322
  let v390 : BitVec 32 := Scalar.remsi v387 v389
  let c0_i32_326 : BitVec 32 := 0#32
  let v392 : BitVec 1 := Scalar.cmpi .slt v390 c0_i32_326
  let c0_i32_327 : BitVec 32 := 0#32
  let v393 : BitVec 1 := Scalar.cmpi .slt v389 c0_i32_327
  let v394 : BitVec 1 := Scalar.xori v392 v393
  let c0_i32_325 : BitVec 32 := 0#32
  let v391 : BitVec 1 := Scalar.cmpi .ne v390 c0_i32_325
  let v395 : BitVec 1 := Scalar.andi v394 v391
  let v396 : BitVec 32 := Scalar.addi v390 v389
  let v397 : BitVec 32 := Scalar.select v395 v396 v390
  let c384_i32_338 : BitVec 32 := 384#32
  let v411 : BitVec 32 := Scalar.muli v397 c384_i32_338
  let c192_i32_339 : BitVec 32 := 192#32
  let v412 : BitVec 32 := Scalar.addi v411 c192_i32_339
  let v413 : Index := Scalar.indexCast v412
  let c0_340 : Index := 0#32
  ![v413.toNat, 0]
def k0_dev5 (d0 : Dev nD) : Nat :=
  let c0_i32_400 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_399 : BitVec 32 := 1#32
  let v468 : BitVec 32 := Scalar.muli v14 c1_i32_399
  let v469 : BitVec 32 := Scalar.addi c0_i32_400 v468
  v469.toNat
def k0_dev6 (d0 : Dev nD) : Nat :=
  let c0_i32_403 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_402 : BitVec 32 := 1#32
  let v470 : BitVec 32 := Scalar.muli v25 c1_i32_402
  let v471 : BitVec 32 := Scalar.addi c0_i32_403 v470
  v471.toNat
def k0_dev7 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_410 : BitVec 32 := 1#32
  let v472 : BitVec 32 := Scalar.muli v25 c1_i32_410
  let v473 : BitVec 32 := Scalar.addi c0_i32_411 v472
  v473.toNat
def k0_dev8 (d0 : Dev nD) : Nat :=
  let c0_i32_421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_420 : BitVec 32 := 1#32
  let v482 : BitVec 32 := Scalar.muli v14 c1_i32_420
  let v483 : BitVec 32 := Scalar.addi c0_i32_421 v482
  v483.toNat
def k0_dev9 (d0 : Dev nD) : Nat :=
  let c0_i32_513 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_512 : BitVec 32 := 1#32
  let v585 : BitVec 32 := Scalar.muli v14 c1_i32_512
  let v586 : BitVec 32 := Scalar.addi c0_i32_513 v585
  v586.toNat
def k0_dev10 (d0 : Dev nD) : Nat :=
  let c0_i32_516 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_515 : BitVec 32 := 1#32
  let v587 : BitVec 32 := Scalar.muli v25 c1_i32_515
  let v588 : BitVec 32 := Scalar.addi c0_i32_516 v587
  v588.toNat
def k0_dev11 (d0 : Dev nD) : Nat :=
  let c0_i32_524 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_523 : BitVec 32 := 1#32
  let v589 : BitVec 32 := Scalar.muli v25 c1_i32_523
  let v590 : BitVec 32 := Scalar.addi c0_i32_524 v589
  v590.toNat
def k0_dev12 (d0 : Dev nD) : Nat :=
  let c0_i32_534 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_533 : BitVec 32 := 1#32
  let v599 : BitVec 32 := Scalar.muli v14 c1_i32_533
  let v600 : BitVec 32 := Scalar.addi c0_i32_534 v599
  v600.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_539 : BitVec 32 := 1#32
  let v609 : BitVec 32 := Scalar.addi v2 c1_i32_539
  let c4_i32_540 : BitVec 32 := 4#32
  let c0_i32_541 : BitVec 32 := 0#32
  let v610 : BitVec 1 := Scalar.cmpi .eq c4_i32_540 c0_i32_541
  let c1_i32_542 : BitVec 32 := 1#32
  let v611 : BitVec 32 := Scalar.select v610 c1_i32_542 c4_i32_540
  let v612 : BitVec 32 := Scalar.remsi v609 v611
  let c0_i32_544 : BitVec 32 := 0#32
  let v614 : BitVec 1 := Scalar.cmpi .slt v612 c0_i32_544
  let c0_i32_545 : BitVec 32 := 0#32
  let v615 : BitVec 1 := Scalar.cmpi .slt v611 c0_i32_545
  let v616 : BitVec 1 := Scalar.xori v614 v615
  let c0_i32_543 : BitVec 32 := 0#32
  let v613 : BitVec 1 := Scalar.cmpi .ne v612 c0_i32_543
  let v617 : BitVec 1 := Scalar.andi v616 v613
  let v618 : BitVec 32 := Scalar.addi v612 v611
  let v619 : BitVec 32 := Scalar.select v617 v618 v612
  let c384_i32_618 : BitVec 32 := 384#32
  let v695 : BitVec 32 := Scalar.muli v619 c384_i32_618
  let v696 : Index := Scalar.indexCast v695
  let c0_619 : Index := 0#32
  ![v696.toNat, 0]
def k0_off5 (d0 : Dev nD) (c0_i32_625 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_623 : BitVec 32 := 1#32
  let v703 : BitVec 32 := Scalar.addi v2 c1_i32_623
  let c4_i32_624 : BitVec 32 := 4#32
  let v704 : BitVec 32 := Scalar.addi v703 c4_i32_624
  let v705 : BitVec 32 := Scalar.subi v704 c0_i32_625
  let c4_i32_626 : BitVec 32 := 4#32
  let c0_i32_627 : BitVec 32 := 0#32
  let v706 : BitVec 1 := Scalar.cmpi .eq c4_i32_626 c0_i32_627
  let c1_i32_628 : BitVec 32 := 1#32
  let v707 : BitVec 32 := Scalar.select v706 c1_i32_628 c4_i32_626
  let v708 : BitVec 32 := Scalar.remsi v705 v707
  let c0_i32_630 : BitVec 32 := 0#32
  let v710 : BitVec 1 := Scalar.cmpi .slt v708 c0_i32_630
  let c0_i32_631 : BitVec 32 := 0#32
  let v711 : BitVec 1 := Scalar.cmpi .slt v707 c0_i32_631
  let v712 : BitVec 1 := Scalar.xori v710 v711
  let c0_i32_629 : BitVec 32 := 0#32
  let v709 : BitVec 1 := Scalar.cmpi .ne v708 c0_i32_629
  let v713 : BitVec 1 := Scalar.andi v712 v709
  let v714 : BitVec 32 := Scalar.addi v708 v707
  let v715 : BitVec 32 := Scalar.select v713 v714 v708
  let c384_i32_641 : BitVec 32 := 384#32
  let v729 : BitVec 32 := Scalar.muli v715 c384_i32_641
  let c0_i32_648 : BitVec 32 := 0#32
  ![v729.toNat, 0]
def k0_dev13 (d0 : Dev nD) : Nat :=
  let c0_i32_647 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_646 : BitVec 32 := 1#32
  let v732 : BitVec 32 := Scalar.muli v25 c1_i32_646
  let v733 : BitVec 32 := Scalar.addi c0_i32_647 v732
  v733.toNat
def k0_off6 (d0 : Dev nD) (c0_i32_634 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_632 : BitVec 32 := 4#32
  let v716 : BitVec 32 := Scalar.addi v2 c4_i32_632
  let c1_i32_633 : BitVec 32 := 1#32
  let v717 : BitVec 32 := Scalar.subi v716 c1_i32_633
  let v718 : BitVec 32 := Scalar.addi v717 c0_i32_634
  let c4_i32_635 : BitVec 32 := 4#32
  let c0_i32_636 : BitVec 32 := 0#32
  let v719 : BitVec 1 := Scalar.cmpi .eq c4_i32_635 c0_i32_636
  let c1_i32_637 : BitVec 32 := 1#32
  let v720 : BitVec 32 := Scalar.select v719 c1_i32_637 c4_i32_635
  let v721 : BitVec 32 := Scalar.remsi v718 v720
  let c0_i32_639 : BitVec 32 := 0#32
  let v723 : BitVec 1 := Scalar.cmpi .slt v721 c0_i32_639
  let c0_i32_640 : BitVec 32 := 0#32
  let v724 : BitVec 1 := Scalar.cmpi .slt v720 c0_i32_640
  let v725 : BitVec 1 := Scalar.xori v723 v724
  let c0_i32_638 : BitVec 32 := 0#32
  let v722 : BitVec 1 := Scalar.cmpi .ne v721 c0_i32_638
  let v726 : BitVec 1 := Scalar.andi v725 v722
  let v727 : BitVec 32 := Scalar.addi v721 v720
  let v728 : BitVec 32 := Scalar.select v726 v727 v721
  let c384_i32_642 : BitVec 32 := 384#32
  let v730 : BitVec 32 := Scalar.muli v728 c384_i32_642
  let c192_i32_643 : BitVec 32 := 192#32
  let v731 : BitVec 32 := Scalar.addi v730 c192_i32_643
  let c0_i32_654 : BitVec 32 := 0#32
  ![v731.toNat, 0]
def k0_dev14 (d0 : Dev nD) : Nat :=
  let c0_i32_653 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_652 : BitVec 32 := 1#32
  let v740 : BitVec 32 := Scalar.muli v14 c1_i32_652
  let v741 : BitVec 32 := Scalar.addi c0_i32_653 v740
  v741.toNat
def k0_dev15 (d0 : Dev nD) : Nat :=
  let c0_i32_702 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_701 : BitVec 32 := 1#32
  let v797 : BitVec 32 := Scalar.muli v25 c1_i32_701
  let v798 : BitVec 32 := Scalar.addi c0_i32_702 v797
  v798.toNat
def k0_dev16 (d0 : Dev nD) : Nat :=
  let c0_i32_708 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_707 : BitVec 32 := 1#32
  let v805 : BitVec 32 := Scalar.muli v14 c1_i32_707
  let v806 : BitVec 32 := Scalar.addi c0_i32_708 v805
  v806.toNat
def k0_dev17 (d0 : Dev nD) : Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_756 : BitVec 32 := 1#32
  let v862 : BitVec 32 := Scalar.muli v25 c1_i32_756
  let v863 : BitVec 32 := Scalar.addi c0_i32_757 v862
  v863.toNat
def k0_dev18 (d0 : Dev nD) : Nat :=
  let c0_i32_763 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_762 : BitVec 32 := 1#32
  let v870 : BitVec 32 := Scalar.muli v14 c1_i32_762
  let v871 : BitVec 32 := Scalar.addi c0_i32_763 v870
  v871.toNat
abbrev stage0_0 : Fin 1 → Memref sig .tc .vmem S1536x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1536x1536 : Shape := ⟨2, ![1536, 1536]⟩
abbrev S1536x12288 : Shape := ⟨2, ![1536, 12288]⟩
abbrev S12288x1536 : Shape := ⟨2, ![12288, 1536]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1536x1536, .f32⟩
  | .hbm, ⟨1, _⟩ => ⟨S1536x12288, .f32⟩
  | .hbm, ⟨2, _⟩ => ⟨S12288x1536, .f32⟩
  | .hbm, ⟨3, _⟩ => ⟨S1536x12288, .f32⟩
  | .hbm, ⟨4, _⟩ => ⟨S_, .f32⟩
  | .hbm, ⟨5, _⟩ => ⟨S1536x12288, .f32⟩
  | .hbm, ⟨6, _⟩ => ⟨S1536x12288, .f32⟩
  | .hbm, ⟨7, _⟩ => ⟨S1536x1536, .f32⟩
  | .hbm, ⟨8, _⟩ => ⟨S1536x1536, .bf16⟩
  | _, _ => ⟨S1536x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Common.lean ====
/-
# The protocol of the ring: memrefs, cells, values, schedule, levels

Four devices stand on a ring; `nxt c` is the device to the right of `c`, `prv c` the one to its left. In each of the
three reduce-scatter hops a device signals both neighbours' barrier cells, waits for two units on its own, sends its
right stream to `nxt c` and its left stream to `prv c`, and waits for both sends and both arrivals. Three more hops pass the
finished pieces of the result on, the same way, with no handshake.

A signal carries memory: in round `r` the signal to the left neighbour hands over the signaller's slot of the right
stream that hop `r` writes, the one to the right neighbour the slot of the left stream; in round 0 also the regions of the
signaller's result that the neighbour's last three hops write. An arrival carries the slot or region written, with what
it then holds, and the round that the sender has reached on the cells that the receiver pays next.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the ring's, duties named by `Bool`, tallies indexed by the round, and the local copies' counters -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
/-- The ring's copy: the left half of the right factor. -/
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB (MT nD τ sig ℕ (Elt F) ℕ UU ℕ)).LandsIn (upEmb : UEmb _ (MT nD τ sig ℕ (Elt F) ℕ UU ℕ)) := by unfold ER; infer_instance

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem prv_prv (c : Dev nD) : prv (prv c) = nxt (nxt c) := by revert c; decide
theorem nxt_ne_prv (c : Dev nD) : nxt c ≠ prv c := by revert c; decide

def ring : Dev nD ≃ Dev nD := ⟨nxt, prv, prv_nxt, nxt_prv⟩

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = prv c := by revert c; decide +kernel
theorem dev6_eq (c : Dev nD) : (⟨k0_dev6 c, k0_dev6_lt c⟩ : Dev nD) = nxt c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel
theorem dev9_eq (c : Dev nD) : (⟨k0_dev9 c, k0_dev9_lt c⟩ : Dev nD) = prv c := by revert c; decide +kernel
theorem dev10_eq (c : Dev nD) : (⟨k0_dev10 c, k0_dev10_lt c⟩ : Dev nD) = nxt c := by revert c; decide +kernel
theorem dev11_eq (c : Dev nD) : (⟨k0_dev11 c, k0_dev11_lt c⟩ : Dev nD) = nxt c := by revert c; decide +kernel
theorem dev12_eq (c : Dev nD) : (⟨k0_dev12 c, k0_dev12_lt c⟩ : Dev nD) = prv c := by revert c; decide +kernel
theorem dev13_eq (c : Dev nD) : (⟨k0_dev13 c, k0_dev13_lt c⟩ : Dev nD) = nxt c := by revert c; decide +kernel
theorem dev14_eq (c : Dev nD) : (⟨k0_dev14 c, k0_dev14_lt c⟩ : Dev nD) = prv c := by revert c; decide +kernel
theorem dev15_eq (c : Dev nD) : (⟨k0_dev15 c, k0_dev15_lt c⟩ : Dev nD) = nxt c := by revert c; decide +kernel
theorem dev16_eq (c : Dev nD) : (⟨k0_dev16 c, k0_dev16_lt c⟩ : Dev nD) = prv c := by revert c; decide +kernel
theorem dev17_eq (c : Dev nD) : (⟨k0_dev17 c, k0_dev17_lt c⟩ : Dev nD) = nxt c := by revert c; decide +kernel
theorem dev18_eq (c : Dev nD) : (⟨k0_dev18 c, k0_dev18_lt c⟩ : Dev nD) = prv c := by revert c; decide +kernel

/-! ## The memrefs -/

abbrev xM : Memref sig .tc .vmem S1536x1536 .f32 := Memref.whole cc0_stg0_0
abbrev oM : Memref sig .tc .vmem S1536x1536 .bf16 := Memref.whole cc0_stg1_0
abbrev rM : Memref sig .tc .vmem S2x192x1536 .bf16 := Memref.whole cc0_scratch4
abbrev lM : Memref sig .tc .vmem S2x192x1536 .bf16 := Memref.whole cc0_scratch5

/-- The two slots of the right stream and of the left one, as the transfers name them. -/
abbrev r0S : Memref sig .tc .vmem S192x1536 .bf16 :=
  (rM.slice (Rect.unit (s := S2x192x1536) ![0, 0, 0] S1x192x1536.size inb_S2x192x1536_S1x192x1536_0_0_0) (fun _ => rfl)).squeeze S192x1536 squeezes_S1x192x1536_S192x1536
abbrev r1S : Memref sig .tc .vmem S192x1536 .bf16 :=
  (rM.slice (Rect.unit (s := S2x192x1536) ![1, 0, 0] S1x192x1536.size inb_S2x192x1536_S1x192x1536_1_0_0) (fun _ => rfl)).squeeze S192x1536 squeezes_S1x192x1536_S192x1536
abbrev l0S : Memref sig .tc .vmem S192x1536 .bf16 :=
  (lM.slice (Rect.unit (s := S2x192x1536) ![0, 0, 0] S1x192x1536.size inb_S2x192x1536_S1x192x1536_0_0_0) (fun _ => rfl)).squeeze S192x1536 squeezes_S1x192x1536_S192x1536
abbrev l1S : Memref sig .tc .vmem S192x1536 .bf16 :=
  (lM.slice (Rect.unit (s := S2x192x1536) ![1, 0, 0] S1x192x1536.size inb_S2x192x1536_S1x192x1536_1_0_0) (fun _ => rfl)).squeeze S192x1536 squeezes_S1x192x1536_S192x1536

/-- Where chunk `j`'s right half (its first 192 rows) and left half (the rest) start. -/
def offR (j : Dev nD) : Fin 2 → Nat := ![384 * j.val, 0]
def offL (j : Dev nD) : Fin 2 → Nat := ![384 * j.val + 192, 0]
theorem offR_inb (j : Dev nD) : ∀ a, offR j a + S192x1536.size a ≤ S1536x1536.size a := by revert j; decide +kernel
theorem offL_inb (j : Dev nD) : ∀ a, offL j a + S192x1536.size a ≤ S1536x1536.size a := by revert j; decide +kernel

abbrev outR (j : Dev nD) : Memref sig .tc .vmem S192x1536 .bf16 :=
  oM.slice (Rect.unit (s := S1536x1536) (offR j) S192x1536.size (offR_inb j)) (fun _ => rfl)
abbrev outL (j : Dev nD) : Memref sig .tc .vmem S192x1536 .bf16 :=
  oM.slice (Rect.unit (s := S1536x1536) (offL j) S192x1536.size (offL_inb j)) (fun _ => rfl)

theorem off1_eq (c : Dev nD) : k0_off1 c = offR c := by revert c; decide +kernel
theorem off2_0 (c : Dev nD) : k0_off2 c 3#32 = offR (prv c) := by revert c; decide +kernel
theorem off2_1 (c : Dev nD) : k0_off2 c 2#32 = offR (prv (prv c)) := by revert c; decide +kernel
theorem off2_2 (c : Dev nD) : k0_off2 c 1#32 = offR (nxt c) := by revert c; decide +kernel
theorem off3_0 (c : Dev nD) : k0_off3 c 0#32 = offL (nxt c) := by revert c; decide +kernel
theorem off3_1 (c : Dev nD) : k0_off3 c 1#32 = offL (nxt (nxt c)) := by revert c; decide +kernel
theorem off3_2 (c : Dev nD) : k0_off3 c 2#32 = offL (prv c) := by revert c; decide +kernel
theorem off4_eq (c : Dev nD) : k0_off4 c = offR (nxt c) := by revert c; decide +kernel
theorem off5_0 (c : Dev nD) : k0_off5 c 0#32 = offR (nxt c) := by revert c; decide +kernel
theorem off5_1 (c : Dev nD) : k0_off5 c 1#32 = offR c := by revert c; decide +kernel
theorem off5_2 (c : Dev nD) : k0_off5 c 2#32 = offR (prv c) := by revert c; decide +kernel
theorem off6_0 (c : Dev nD) : k0_off6 c 0#32 = offL (prv c) := by revert c; decide +kernel
theorem off6_1 (c : Dev nD) : k0_off6 c 1#32 = offL c := by revert c; decide +kernel
theorem off6_2 (c : Dev nD) : k0_off6 c 2#32 = offL (nxt c) := by revert c; decide +kernel

/-! ## The cells -/

/-- The barrier semaphore. -/
abbrev barS : Sem sig := (SemArray.scalar (sig.barrier 0 rfl) : Sems sig S_).sem

abbrev barCell (c : Dev nD) : GSem nD τ sig := ((c : Thread nD τ), .reg barS)
set_option backward.proofsInPublic true in
abbrev sR0 (c : Dev nD) : GSem nD τ sig := ((c : Thread nD τ), .dma ⟨6, by decide⟩)
set_option backward.proofsInPublic true in
abbrev sR1 (c : Dev nD) : GSem nD τ sig := ((c : Thread nD τ), .dma ⟨7, by decide⟩)
set_option backward.proofsInPublic true in
abbrev vR0 (c : Dev nD) : GSem nD τ sig := ((c : Thread nD τ), .dma ⟨8, by decide⟩)
set_option backward.proofsInPublic true in
abbrev vR1 (c : Dev nD) : GSem nD τ sig := ((c : Thread nD τ), .dma ⟨9, by decide⟩)
set_option backward.proofsInPublic true in
abbrev sL0 (c : Dev nD) : GSem nD τ sig := ((c : Thread nD τ), .dma ⟨10, by decide⟩)
set_option backward.proofsInPublic true in
abbrev sL1 (c : Dev nD) : GSem nD τ sig := ((c : Thread nD τ), .dma ⟨11, by decide⟩)
set_option backward.proofsInPublic true in
abbrev vL0 (c : Dev nD) : GSem nD τ sig := ((c : Thread nD τ), .dma ⟨12, by decide⟩)
set_option backward.proofsInPublic true in
abbrev vL1 (c : Dev nD) : GSem nD τ sig := ((c : Thread nD τ), .dma ⟨13, by decide⟩)

/-- One transfer's credit: all of them move 192 rows of 1536. -/
abbrev N : ℕ := (r0S : Memref sig .tc .vmem S192x1536 .bf16).view.dmaCredit
theorem N_pos : 0 < N := View.dmaCredit_pos _ (by decide)

/-! ## Values -/

/-- What the transfers move: `sR h c`, `sL h c` what device `c` sends in hop `h` of the reduce-scatter, to the right and to
    the left; `gR j`, `gL j` the finished right and left half of chunk `j`. -/
structure Vals (F : FTy → Type) where
  sR : ℕ → Dev nD → FVec F S192x1536 .bf16
  sL : ℕ → Dev nD → FVec F S192x1536 .bf16
  gR : Dev nD → FVec F S192x1536 .bf16
  gL : Dev nD → FVec F S192x1536 .bf16

variable (v : Vals F)

/-- Memref `M` of device `c`, held whole, at some contents. -/
abbrev held {s : Shape} {e : EltTy} (M : Memref sig .tc .vmem s e) (c : Dev nD) (f : Buf (Elt F) (M.view.loc (c : Thread nD τ))) : sProp 𝕄 :=
  M.view.loc (c : Thread nD τ) ↦[M.view.set]{fullShare} f
/-- The same, holding the values `x`. -/
abbrev at_ {s : Shape} {e : EltTy} (M : Memref sig .tc .vmem s e) (c : Dev nD) (x : s.Idx → Elt F e) : sProp 𝕄 := held M c (M.view.rep x)

/-! ## The schedule -/

/-- An arrival: memref `D` of device `c` written with what the sender's `M` held, the values `x`. -/
abbrev landed {s : Shape} (D M : Memref sig .tc .vmem s .bf16) (c d : Dev nD) (x : s.Idx → Elt F .bf16) : sProp 𝕄 :=
  iprop(∃ fd, D.view.loc (c : Thread nD τ) ↦[D.view.set]{fullShare} D.view.write (Elt F) fd (M.view.read (Elt F) ((M.view.rep x : Buf (Elt F) (M.view.loc (d : Thread nD τ))))) Finset.univ)
/-- Memref `M` of device `c`, held whole at whatever contents. -/
abbrev any_ {s : Shape} {e : EltTy} (M : Memref sig .tc .vmem s e) (c : Dev nD) : sProp 𝕄 := iprop(∃ f, held (F := F) M c f)

/-- What the signal of `nxt c` in round `r` hands `c`: the slot of `nxt c`'s right stream that hop `r` writes. -/
def barT (c : Dev nD) : ℕ → sProp 𝕄
  | 0 => iprop(any_ (F := F) r1S (nxt c) ∗ any_ (F := F) (outR (nxt c)) (nxt c) ∗ any_ (F := F) (outR c) (nxt c) ∗ any_ (F := F) (outR (prv c)) (nxt c))
  | 1 => any_ (F := F) r0S (nxt c)
  | 2 => iprop(any_ (F := F) r1S (nxt c) ∗ reached ER (vR0 (nxt c)) 1 ∗ reached ER (vR1 (nxt c)) 1)
  | _ => iprop(emp)
/-- What the signal of `prv c` hands `c`: the same of the left stream. -/
def barF (c : Dev nD) : ℕ → sProp 𝕄
  | 0 => iprop(any_ (F := F) l1S (prv c) ∗ any_ (F := F) (outL (prv c)) (prv c) ∗ any_ (F := F) (outL c) (prv c) ∗ any_ (F := F) (outL (nxt c)) (prv c))
  | 1 => any_ (F := F) l0S (prv c)
  | 2 => iprop(any_ (F := F) l1S (prv c) ∗ reached ER (vL0 (prv c)) 1 ∗ reached ER (vL1 (prv c)) 1)
  | _ => iprop(emp)

/-- What `c` gets back when its hops on a send cell have left: the source. -/
def sendR0 (c : Dev nD) : ℕ → sProp 𝕄
  | 0 => at_ (F := F) r0S c (v.sR 0 c) | 1 => at_ (F := F) r0S c (v.sR 2 c) | 2 => at_ (F := F) (outR c) c (v.gR c) | _ => iprop(emp)
def sendR1 (c : Dev nD) : ℕ → sProp 𝕄
  | 0 => at_ (F := F) r1S c (v.sR 1 c) | 1 => at_ (F := F) (outR (nxt c)) c (v.gR (nxt c)) | 2 => at_ (F := F) (outR (prv c)) c (v.gR (prv c)) | _ => iprop(emp)
def sendL0 (c : Dev nD) : ℕ → sProp 𝕄
  | 0 => at_ (F := F) l0S c (v.sL 0 c) | 1 => at_ (F := F) l0S c (v.sL 2 c) | 2 => at_ (F := F) (outL c) c (v.gL c) | _ => iprop(emp)
def sendL1 (c : Dev nD) : ℕ → sProp 𝕄
  | 0 => at_ (F := F) l1S c (v.sL 1 c) | 1 => at_ (F := F) (outL (prv c)) c (v.gL (prv c)) | 2 => at_ (F := F) (outL (nxt c)) c (v.gL (nxt c)) | _ => iprop(emp)

/-- What arrives on a receive cell of `nxt d` from `d` (the right stream), and of `prv d` from `d` (the left one): the
    hops 1, 3, 5 on cell 0, the hops 0, 2, 4 on cell 1. -/
def recvR0 (d : Dev nD) : ℕ → sProp 𝕄
  | 0 => iprop(landed (F := F) r0S r1S (nxt d) d (v.sR 1 d) ∗ reached ER (barCell d) 2)
  | 1 => iprop(landed (F := F) (outR (nxt d)) (outR (nxt d)) (nxt d) d (v.gR (nxt d)) ∗ reached ER (vL1 d) 2)
  | 2 => landed (F := F) (outR (prv d)) (outR (prv d)) (nxt d) d (v.gR (prv d))
  | _ => iprop(emp)
def recvR1 (d : Dev nD) : ℕ → sProp 𝕄
  | 0 => iprop(landed (F := F) r1S r0S (nxt d) d (v.sR 0 d) ∗ reached ER (barCell d) 1)
  | 1 => landed (F := F) r1S r0S (nxt d) d (v.sR 2 d)
  | 2 => iprop(landed (F := F) (outR d) (outR d) (nxt d) d (v.gR d) ∗ reached ER (vL0 d) 2)
  | _ => iprop(emp)
def recvL0 (d : Dev nD) : ℕ → sProp 𝕄
  | 0 => iprop(landed (F := F) l0S l1S (prv d) d (v.sL 1 d) ∗ reached ER (barCell d) 2)
  | 1 => iprop(landed (F := F) (outL (prv d)) (outL (prv d)) (prv d) d (v.gL (prv d)) ∗ reached ER (vR1 d) 2)
  | 2 => landed (F := F) (outL (nxt d)) (outL (nxt d)) (prv d) d (v.gL (nxt d))
  | _ => iprop(emp)
def recvL1 (d : Dev nD) : ℕ → sProp 𝕄
  | 0 => iprop(landed (F := F) l1S l0S (prv d) d (v.sL 0 d) ∗ reached ER (barCell d) 1)
  | 1 => landed (F := F) l1S l0S (prv d) d (v.sL 2 d)
  | 2 => iprop(landed (F := F) (outL d) (outL d) (prv d) d (v.gL d) ∗ reached ER (vR0 d) 2)
  | _ => iprop(emp)

/-- The payload of a semaphore's round, by the semaphore. -/
def pay (c : Dev nD) : SemLoc sig → ℕ → Bool → sProp 𝕄
  | .reg _, r, true => barT c r
  | .reg _, r, false => barF c r
  | .dma ⟨6, _⟩, r, _ => sendR0 v c r
  | .dma ⟨7, _⟩, r, _ => sendR1 v c r
  | .dma ⟨8, _⟩, r, _ => recvR0 v (prv c) r
  | .dma ⟨9, _⟩, r, _ => recvR1 v (prv c) r
  | .dma ⟨10, _⟩, r, _ => sendL0 v c r
  | .dma ⟨11, _⟩, r, _ => sendL1 v c r
  | .dma ⟨12, _⟩, r, _ => recvL0 v (nxt c) r
  | .dma ⟨13, _⟩, r, _ => recvL1 v (nxt c) r
  | _, _, _ => iprop(emp)

/-- The ring's cells are the barrier semaphore and the eight transfer semaphores, numbered from 6. -/
def isX : SemLoc sig → Bool
  | .dma q => decide (6 ≤ q.val)
  | _ => false
def isB : SemLoc sig → Bool
  | .reg _ => true
  | _ => false

/-- Three rounds on each of the ring's cells: a barrier cell's have the duties `true` (of `nxt c`) and `false` (of `prv c`),
    one unit each; a transfer cell's the duty `false`, of one transfer's credit. -/
def Rd : Rounds.Schedule (GSem nD τ sig) Bool 𝕄 where
  duties g r := if g.1.2 = .tc ∧ r < 3 then (if isB g.2 then Finset.univ else if isX g.2 then {false} else ∅) else ∅
  unitless _ := False
  amount g _ _ := if isB g.2 then 1 else N
  payload g r d := pay v g.1.1 g.2 r d
  amount_pos g _ _ _ := by
    by_cases h : isB g.2 = true
    · rw [if_pos h]; exact Nat.one_pos
    · rw [if_neg h]; exact N_pos

set_option synthInstance.maxHeartbeats 400000

omit [FloatOps F] in
instance barT_st (c : Dev nD) (r : ℕ) : BI.Storable (upEmb : UEmb _ 𝕄) (barT (F := F) c r) := by unfold barT; split <;> infer_instance
omit [FloatOps F] in
instance barF_st (c : Dev nD) (r : ℕ) : BI.Storable (upEmb : UEmb _ 𝕄) (barF (F := F) c r) := by unfold barF; split <;> infer_instance
instance sendR0_st (c : Dev nD) (r : ℕ) : BI.Storable (upEmb : UEmb _ 𝕄) (sendR0 v c r) := by unfold sendR0; split <;> infer_instance
instance sendR1_st (c : Dev nD) (r : ℕ) : BI.Storable (upEmb : UEmb _ 𝕄) (sendR1 v c r) := by unfold sendR1; split <;> infer_instance
instance sendL0_st (c : Dev nD) (r : ℕ) : BI.Storable (upEmb : UEmb _ 𝕄) (sendL0 v c r) := by unfold sendL0; split <;> infer_instance
instance sendL1_st (c : Dev nD) (r : ℕ) : BI.Storable (upEmb : UEmb _ 𝕄) (sendL1 v c r) := by unfold sendL1; split <;> infer_instance
instance recvR0_st (c : Dev nD) (r : ℕ) : BI.Storable (upEmb : UEmb _ 𝕄) (recvR0 v c r) := by unfold recvR0; split <;> infer_instance
instance recvR1_st (c : Dev nD) (r : ℕ) : BI.Storable (upEmb : UEmb _ 𝕄) (recvR1 v c r) := by unfold recvR1; split <;> infer_instance
instance recvL0_st (c : Dev nD) (r : ℕ) : BI.Storable (upEmb : UEmb _ 𝕄) (recvL0 v c r) := by unfold recvL0; split <;> infer_instance
instance recvL1_st (c : Dev nD) (r : ℕ) : BI.Storable (upEmb : UEmb _ 𝕄) (recvL1 v c r) := by unfold recvL1; split <;> infer_instance
instance Rd_st (g : GSem nD τ sig) (r : ℕ) (d : Bool) : BI.Storable (upEmb : UEmb _ 𝕄) ((Rd v).payload g r d) := by
  show BI.Storable upEmb (pay v g.1.1 g.2 r d)
  unfold pay; split <;> infer_instance

/-! ### Its tables -/

section Sched
variable (c : Dev nD)

theorem duties_bar (r : ℕ) (h : r < 3) : (Rd v).duties (barCell c) r = Finset.univ := by dsimp only [Rd]; rw [if_pos ⟨rfl, h⟩]; rfl
theorem duties_dma (k : ℕ) (hk : k < 14) (h6 : 6 ≤ k) (r : ℕ) (h : r < 3) : (Rd v).duties ((c : Thread nD τ), .dma ⟨k, hk⟩) r = {false} := by
  dsimp only [Rd]; rw [if_pos ⟨rfl, h⟩, if_neg (by simp [isB]), if_pos (by simp only [isX, decide_eq_true_eq]; exact h6)]
theorem amount_bar (r : ℕ) (d : Bool) : (Rd v).amount (barCell c) r d = 1 := rfl
theorem amount_dma (q : DmaSem sig) (r : ℕ) (d : Bool) : (Rd v).amount ((c : Thread nD τ), .dma q) r d = N := rfl
theorem expect_bar (r : ℕ) (h : r < 3) : (Rd v).expect (barCell c) r = 2 := by
  unfold Schedule.expect Schedule.amountOf; rw [duties_bar v c r h]; rfl
theorem expect_dma (k : ℕ) (hk : k < 14) (h6 : 6 ≤ k) (r : ℕ) (h : r < 3) : (Rd v).expect ((c : Thread nD τ), .dma ⟨k, hk⟩) r = N := by
  unfold Schedule.expect Schedule.amountOf; rw [duties_dma v c k hk h6 r h, Finset.sum_singleton, amount_dma]
theorem duties_later (g : GSem nD τ sig) : ∀ r, 3 ≤ r → (Rd v).duties g r = ∅ :=
  fun r hr => by dsimp only [Rd]; rw [if_neg fun h => by omega]

theorem duties_bar0 : (Rd v).duties (barCell c) 0 = Finset.univ := duties_bar v c 0 (by decide)
theorem expect_bar0 : (Rd v).expect (barCell c) 0 = 2 := expect_bar v c 0 (by decide)
theorem payload_barT0 : (Rd v).payload (barCell c) 0 true = barT c 0 := rfl
theorem payload_barF0 : (Rd v).payload (barCell c) 0 false = barF c 0 := rfl
theorem duties_sR0_0 : (Rd v).duties (sR0 c) 0 = {false} := duties_dma v c 6 (by decide) (by decide) 0 (by decide)
theorem expect_sR0_0 : (Rd v).expect (sR0 c) 0 = N := expect_dma v c 6 (by decide) (by decide) 0 (by decide)
theorem payload_sR0_0 (d : Bool) : (Rd v).payload (sR0 c) 0 d = sendR0 v c 0 := rfl
theorem duties_sR1_0 : (Rd v).duties (sR1 c) 0 = {false} := duties_dma v c 7 (by decide) (by decide) 0 (by decide)
theorem expect_sR1_0 : (Rd v).expect (sR1 c) 0 = N := expect_dma v c 7 (by decide) (by decide) 0 (by decide)
theorem payload_sR1_0 (d : Bool) : (Rd v).payload (sR1 c) 0 d = sendR1 v c 0 := rfl
theorem duties_vR0_0 : (Rd v).duties (vR0 c) 0 = {false} := duties_dma v c 8 (by decide) (by decide) 0 (by decide)
theorem expect_vR0_0 : (Rd v).expect (vR0 c) 0 = N := expect_dma v c 8 (by decide) (by decide) 0 (by decide)
theorem payload_vR0_0 (d : Bool) : (Rd v).payload (vR0 c) 0 d = recvR0 v (prv c) 0 := rfl
theorem duties_vR1_0 : (Rd v).duties (vR1 c) 0 = {false} := duties_dma v c 9 (by decide) (by decide) 0 (by decide)
theorem expect_vR1_0 : (Rd v).expect (vR1 c) 0 = N := expect_dma v c 9 (by decide) (by decide) 0 (by decide)
theorem payload_vR1_0 (d : Bool) : (Rd v).payload (vR1 c) 0 d = recvR1 v (prv c) 0 := rfl
theorem duties_sL0_0 : (Rd v).duties (sL0 c) 0 = {false} := duties_dma v c 10 (by decide) (by decide) 0 (by decide)
theorem expect_sL0_0 : (Rd v).expect (sL0 c) 0 = N := expect_dma v c 10 (by decide) (by decide) 0 (by decide)
theorem payload_sL0_0 (d : Bool) : (Rd v).payload (sL0 c) 0 d = sendL0 v c 0 := rfl
theorem duties_sL1_0 : (Rd v).duties (sL1 c) 0 = {false} := duties_dma v c 11 (by decide) (by decide) 0 (by decide)
theorem expect_sL1_0 : (Rd v).expect (sL1 c) 0 = N := expect_dma v c 11 (by decide) (by decide) 0 (by decide)
theorem payload_sL1_0 (d : Bool) : (Rd v).payload (sL1 c) 0 d = sendL1 v c 0 := rfl
theorem duties_vL0_0 : (Rd v).duties (vL0 c) 0 = {false} := duties_dma v c 12 (by decide) (by decide) 0 (by decide)
theorem expect_vL0_0 : (Rd v).expect (vL0 c) 0 = N := expect_dma v c 12 (by decide) (by decide) 0 (by decide)
theorem payload_vL0_0 (d : Bool) : (Rd v).payload (vL0 c) 0 d = recvL0 v (nxt c) 0 := rfl
theorem duties_vL1_0 : (Rd v).duties (vL1 c) 0 = {false} := duties_dma v c 13 (by decide) (by decide) 0 (by decide)
theorem expect_vL1_0 : (Rd v).expect (vL1 c) 0 = N := expect_dma v c 13 (by decide) (by decide) 0 (by decide)
theorem payload_vL1_0 (d : Bool) : (Rd v).payload (vL1 c) 0 d = recvL1 v (nxt c) 0 := rfl
theorem duties_bar1 : (Rd v).duties (barCell c) 1 = Finset.univ := duties_bar v c 1 (by decide)
theorem expect_bar1 : (Rd v).expect (barCell c) 1 = 2 := expect_bar v c 1 (by decide)
theorem payload_barT1 : (Rd v).payload (barCell c) 1 true = barT c 1 := rfl
theorem payload_barF1 : (Rd v).payload (barCell c) 1 false = barF c 1 := rfl
theorem duties_sR0_1 : (Rd v).duties (sR0 c) 1 = {false} := duties_dma v c 6 (by decide) (by decide) 1 (by decide)
theorem expect_sR0_1 : (Rd v).expect (sR0 c) 1 = N := expect_dma v c 6 (by decide) (by decide) 1 (by decide)
theorem payload_sR0_1 (d : Bool) : (Rd v).payload (sR0 c) 1 d = sendR0 v c 1 := rfl
theorem duties_sR1_1 : (Rd v).duties (sR1 c) 1 = {false} := duties_dma v c 7 (by decide) (by decide) 1 (by decide)
theorem expect_sR1_1 : (Rd v).expect (sR1 c) 1 = N := expect_dma v c 7 (by decide) (by decide) 1 (by decide)
theorem payload_sR1_1 (d : Bool) : (Rd v).payload (sR1 c) 1 d = sendR1 v c 1 := rfl
theorem duties_vR0_1 : (Rd v).duties (vR0 c) 1 = {false} := duties_dma v c 8 (by decide) (by decide) 1 (by decide)
theorem expect_vR0_1 : (Rd v).expect (vR0 c) 1 = N := expect_dma v c 8 (by decide) (by decide) 1 (by decide)
theorem payload_vR0_1 (d : Bool) : (Rd v).payload (vR0 c) 1 d = recvR0 v (prv c) 1 := rfl
theorem duties_vR1_1 : (Rd v).duties (vR1 c) 1 = {false} := duties_dma v c 9 (by decide) (by decide) 1 (by decide)
theorem expect_vR1_1 : (Rd v).expect (vR1 c) 1 = N := expect_dma v c 9 (by decide) (by decide) 1 (by decide)
theorem payload_vR1_1 (d : Bool) : (Rd v).payload (vR1 c) 1 d = recvR1 v (prv c) 1 := rfl
theorem duties_sL0_1 : (Rd v).duties (sL0 c) 1 = {false} := duties_dma v c 10 (by decide) (by decide) 1 (by decide)
theorem expect_sL0_1 : (Rd v).expect (sL0 c) 1 = N := expect_dma v c 10 (by decide) (by decide) 1 (by decide)
theorem payload_sL0_1 (d : Bool) : (Rd v).payload (sL0 c) 1 d = sendL0 v c 1 := rfl
theorem duties_sL1_1 : (Rd v).duties (sL1 c) 1 = {false} := duties_dma v c 11 (by decide) (by decide) 1 (by decide)
theorem expect_sL1_1 : (Rd v).expect (sL1 c) 1 = N := expect_dma v c 11 (by decide) (by decide) 1 (by decide)
theorem payload_sL1_1 (d : Bool) : (Rd v).payload (sL1 c) 1 d = sendL1 v c 1 := rfl
theorem duties_vL0_1 : (Rd v).duties (vL0 c) 1 = {false} := duties_dma v c 12 (by decide) (by decide) 1 (by decide)
theorem expect_vL0_1 : (Rd v).expect (vL0 c) 1 = N := expect_dma v c 12 (by decide) (by decide) 1 (by decide)
theorem payload_vL0_1 (d : Bool) : (Rd v).payload (vL0 c) 1 d = recvL0 v (nxt c) 1 := rfl
theorem duties_vL1_1 : (Rd v).duties (vL1 c) 1 = {false} := duties_dma v c 13 (by decide) (by decide) 1 (by decide)
theorem expect_vL1_1 : (Rd v).expect (vL1 c) 1 = N := expect_dma v c 13 (by decide) (by decide) 1 (by decide)
theorem payload_vL1_1 (d : Bool) : (Rd v).payload (vL1 c) 1 d = recvL1 v (nxt c) 1 := rfl
theorem duties_bar2 : (Rd v).duties (barCell c) 2 = Finset.univ := duties_bar v c 2 (by decide)
theorem expect_bar2 : (Rd v).expect (barCell c) 2 = 2 := expect_bar v c 2 (by decide)
theorem payload_barT2 : (Rd v).payload (barCell c) 2 true = barT c 2 := rfl
theorem payload_barF2 : (Rd v).payload (barCell c) 2 false = barF c 2 := rfl
theorem duties_sR0_2 : (Rd v).duties (sR0 c) 2 = {false} := duties_dma v c 6 (by decide) (by decide) 2 (by decide)
theorem expect_sR0_2 : (Rd v).expect (sR0 c) 2 = N := expect_dma v c 6 (by decide) (by decide) 2 (by decide)
theorem payload_sR0_2 (d : Bool) : (Rd v).payload (sR0 c) 2 d = sendR0 v c 2 := rfl
theorem duties_sR1_2 : (Rd v).duties (sR1 c) 2 = {false} := duties_dma v c 7 (by decide) (by decide) 2 (by decide)
theorem expect_sR1_2 : (Rd v).expect (sR1 c) 2 = N := expect_dma v c 7 (by decide) (by decide) 2 (by decide)
theorem payload_sR1_2 (d : Bool) : (Rd v).payload (sR1 c) 2 d = sendR1 v c 2 := rfl
theorem duties_vR0_2 : (Rd v).duties (vR0 c) 2 = {false} := duties_dma v c 8 (by decide) (by decide) 2 (by decide)
theorem expect_vR0_2 : (Rd v).expect (vR0 c) 2 = N := expect_dma v c 8 (by decide) (by decide) 2 (by decide)
theorem payload_vR0_2 (d : Bool) : (Rd v).payload (vR0 c) 2 d = recvR0 v (prv c) 2 := rfl
theorem duties_vR1_2 : (Rd v).duties (vR1 c) 2 = {false} := duties_dma v c 9 (by decide) (by decide) 2 (by decide)
theorem expect_vR1_2 : (Rd v).expect (vR1 c) 2 = N := expect_dma v c 9 (by decide) (by decide) 2 (by decide)
theorem payload_vR1_2 (d : Bool) : (Rd v).payload (vR1 c) 2 d = recvR1 v (prv c) 2 := rfl
theorem duties_sL0_2 : (Rd v).duties (sL0 c) 2 = {false} := duties_dma v c 10 (by decide) (by decide) 2 (by decide)
theorem expect_sL0_2 : (Rd v).expect (sL0 c) 2 = N := expect_dma v c 10 (by decide) (by decide) 2 (by decide)
theorem payload_sL0_2 (d : Bool) : (Rd v).payload (sL0 c) 2 d = sendL0 v c 2 := rfl
theorem duties_sL1_2 : (Rd v).duties (sL1 c) 2 = {false} := duties_dma v c 11 (by decide) (by decide) 2 (by decide)
theorem expect_sL1_2 : (Rd v).expect (sL1 c) 2 = N := expect_dma v c 11 (by decide) (by decide) 2 (by decide)
theorem payload_sL1_2 (d : Bool) : (Rd v).payload (sL1 c) 2 d = sendL1 v c 2 := rfl
theorem duties_vL0_2 : (Rd v).duties (vL0 c) 2 = {false} := duties_dma v c 12 (by decide) (by decide) 2 (by decide)
theorem expect_vL0_2 : (Rd v).expect (vL0 c) 2 = N := expect_dma v c 12 (by decide) (by decide) 2 (by decide)
theorem payload_vL0_2 (d : Bool) : (Rd v).payload (vL0 c) 2 d = recvL0 v (nxt c) 2 := rfl
theorem duties_vL1_2 : (Rd v).duties (vL1 c) 2 = {false} := duties_dma v c 13 (by decide) (by decide) 2 (by decide)
theorem expect_vL1_2 : (Rd v).expect (vL1 c) 2 = N := expect_dma v c 13 (by decide) (by decide) 2 (by decide)
theorem payload_vL1_2 (d : Bool) : (Rd v).payload (vL1 c) 2 d = recvL1 v (nxt c) 2 := rfl

end Sched

/-! ## What each core owes at launch; the levels -/

/-- A hop's two arrivals that a device owes: the right stream's at cell `a` of `nxt c`, the left one's at cell `b` of `prv c`; and
    a handshake's two signals. -/
abbrev dR (a : Dev nD → GSem nD τ sig) (r : ℕ) (c : Dev nD) : CellTallies nD τ sig ℕ := tallyAt (a (nxt c)) r N
abbrev dL (a : Dev nD → GSem nD τ sig) (r : ℕ) (c : Dev nD) : CellTallies nD τ sig ℕ := tallyAt (a (prv c)) r N
abbrev bP (r : ℕ) (c : Dev nD) : CellTallies nD τ sig ℕ := tallyAt (barCell (prv c)) r 1
abbrev bN (r : ℕ) (c : Dev nD) : CellTallies nD τ sig ℕ := tallyAt (barCell (nxt c)) r 1

/-- What is owed after hop `h - 1`, last things first. -/
def O5 (c : Dev nD) : CellTallies nD τ sig ℕ := dR vR0 2 c + dL vL0 2 c
def O4 (c : Dev nD) : CellTallies nD τ sig ℕ := O5 c + dR vR1 2 c + dL vL1 2 c
def O3 (c : Dev nD) : CellTallies nD τ sig ℕ := O4 c + dR vR0 1 c + dL vL0 1 c
def O2 (c : Dev nD) : CellTallies nD τ sig ℕ := O3 c + dR vR1 1 c + dL vL1 1 c + bP 2 c + bN 2 c
def O1 (c : Dev nD) : CellTallies nD τ sig ℕ := O2 c + dR vR0 0 c + dL vL0 0 c + bP 1 c + bN 1 c
def O0 (c : Dev nD) : CellTallies nD τ sig ℕ := O1 c + dR vR1 0 c + dL vL1 0 c + bP 0 c + bN 0 c

def L (g : GSem nD τ sig) : Finset ℕ := if g.1.2 = .tc then {0, 1, 2} else ∅
/-- The handshake of round `r` at `1 + 2 r`, the arrivals of hop `h` at `2 + 2 h`, everything else (staging, departures) at 0. -/
def lv (g : GSem nD τ sig) (r : ℕ) : ℕ :=
  match g.2 with
  | .reg _ => 1 + 2 * r
  | .dma ⟨9, _⟩ | .dma ⟨13, _⟩ => 2 + 4 * r
  | .dma ⟨8, _⟩ | .dma ⟨12, _⟩ => 4 + 4 * r
  | _ => 0

theorem L_of_ne (g : GSem nD τ sig) (h : g.1.2 ≠ .tc) : L g = ∅ := if_neg h
theorem L_tc (c : Dev nD) (sm : SemLoc sig) : L ((c : Thread nD τ), sm) = {0, 1, 2} := if_pos rfl

/-- Everything `O` counts is at a level above `n`. -/
def Above (n : ℕ) (O : CellTallies nD τ sig ℕ) : Prop := ∀ g u, 0 < O g u → u ∈ L g ∧ n < lv g u

theorem Above.add {n : ℕ} {O O' : CellTallies nD τ sig ℕ} (h : Above n O) (h' : Above n O') : Above n (O + O') := by
  intro g u hg
  rw [Pi.add_apply, Finsupp.add_apply] at hg
  rcases Nat.eq_zero_or_pos (O g u) with h0 | h0
  · exact h' g u (by omega)
  · exact h g u h0
theorem Above.tally {n : ℕ} {g : GSem nD τ sig} {u k : ℕ} (hL : u ∈ L g) (h' : Nat.ble (n + 1) (lv g u) = true) : Above n (tallyAt g u k) := by
  intro g' u' hg
  rw [tallyAt_apply] at hg
  by_cases e : g' = g ∧ u' = u
  · rw [e.1, e.2]; exact ⟨hL, Nat.le_of_ble_eq_true h'⟩
  · rw [if_neg e] at hg; exact absurd hg (Nat.lt_irrefl 0)
theorem Above.zero (n : ℕ) : Above n 0 := fun g u h => absurd h (Nat.lt_irrefl 0)
theorem Above.mono {n n' : ℕ} (hn : n' ≤ n) {O : CellTallies nD τ sig ℕ} (h : Above n O) : Above n' O := fun g u hg => ⟨(h g u hg).1, lt_of_le_of_lt hn (h g u hg).2⟩

omit [FloatOps F] in
theorem Above.mayWait {c : Dev nD} {sm : SemLoc sig} {r : ℕ} (hr : r < 3) {O : CellTallies nD τ sig ℕ} (h : Above (lv ((c : Thread nD τ), sm) r) O) :
    (levAts L lv : sProp 𝕄) ⊢ MayWait (c : Thread nD τ) sm r O :=
  MayOwe.of_cut (L := L) (lev := lv) (lv ((c : Thread nD τ), sm) r)
    (fun p hp => by rw [Finset.mem_singleton.mp hp, L_tc]; rcases (by omega : r = 0 ∨ r = 1 ∨ r = 2) with rfl | rfl | rfl <;> simp)
    (fun g u hg => (h g u hg).1)
    (fun p hp => by rw [Finset.mem_singleton.mp hp])
    (fun g u hg => (h g u hg).2)

theorem above5 (c : Dev nD) : Above 11 (O5 c) := (Above.tally (by rw [L_tc]; decide) rfl).add (.tally (by rw [L_tc]; decide) rfl)
theorem above4 (c : Dev nD) : Above 9 (O4 c) :=
  ((above5 c).mono (by decide)).add (.tally (by rw [L_tc]; decide) rfl) |>.add (.tally (by rw [L_tc]; decide) rfl)
theorem above3 (c : Dev nD) : Above 7 (O3 c) :=
  ((above4 c).mono (by decide)).add (.tally (by rw [L_tc]; decide) rfl) |>.add (.tally (by rw [L_tc]; decide) rfl)
theorem above2' (c : Dev nD) : Above 5 (O3 c + dR vR1 1 c + dL vL1 1 c) :=
  ((above3 c).mono (by decide)).add (.tally (by rw [L_tc]; decide) rfl) |>.add (.tally (by rw [L_tc]; decide) rfl)
theorem above2 (c : Dev nD) : Above 4 (O2 c) :=
  ((above2' c).mono (by decide)).add (.tally (by rw [L_tc]; decide) rfl) |>.add (.tally (by rw [L_tc]; decide) rfl)
theorem above1' (c : Dev nD) : Above 3 (O2 c + dR vR0 0 c + dL vL0 0 c) :=
  ((above2 c).mono (by decide)).add (.tally (by rw [L_tc]; decide) rfl) |>.add (.tally (by rw [L_tc]; decide) rfl)
theorem above1 (c : Dev nD) : Above 2 (O1 c) :=
  ((above1' c).mono (by decide)).add (.tally (by rw [L_tc]; decide) rfl) |>.add (.tally (by rw [L_tc]; decide) rfl)
theorem above0' (c : Dev nD) : Above 1 (O1 c + dR vR1 0 c + dL vL1 0 c) :=
  ((above1 c).mono (by decide)).add (.tally (by rw [L_tc]; decide) rfl) |>.add (.tally (by rw [L_tc]; decide) rfl)
theorem above0 (c : Dev nD) : Above 0 (O0 c) :=
  ((above0' c).mono (by decide)).add (.tally (by rw [L_tc]; decide) rfl) |>.add (.tally (by rw [L_tc]; decide) rfl)

abbrev 𝒱₀ : Variants := Variants.none

end Cert.RingMlp

end
-- ==== Proof.Tables.lean ====
/-
# The tables of the schedule, payloads written out
-/
module

public import proofs.«01_k».proof.Proof.Common
public import Idealize.ShloMosaic.Lib.Tactic
public import Idealize.ShloMosaic.Lib.VecWindow
public import Idealize.ShloMosaic.Lib.Pipeline.Value

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (v : Vals F)

section Tables
variable (c d e : Dev nD)

theorem pay_barT_0 : (Rd v).payload (barCell c) 0 true = iprop((∃ f, r1S.view.loc (((nxt c) : Dev nD) : Thread nD τ) ↦[r1S.view.set]{fullShare} f) ∗ (∃ f, (outR (nxt c)).view.loc (((nxt c) : Dev nD) : Thread nD τ) ↦[(outR (nxt c)).view.set]{fullShare} f) ∗ (∃ f, (outR c).view.loc (((nxt c) : Dev nD) : Thread nD τ) ↦[(outR c).view.set]{fullShare} f) ∗ (∃ f, (outR (prv c)).view.loc (((nxt c) : Dev nD) : Thread nD τ) ↦[(outR (prv c)).view.set]{fullShare} f)) := rfl
theorem pay_barT_1 : (Rd v).payload (barCell c) 1 true = iprop((∃ f, r0S.view.loc (((nxt c) : Dev nD) : Thread nD τ) ↦[r0S.view.set]{fullShare} f)) := rfl
theorem pay_barT_2 : (Rd v).payload (barCell c) 2 true = iprop((∃ f, r1S.view.loc (((nxt c) : Dev nD) : Thread nD τ) ↦[r1S.view.set]{fullShare} f) ∗ reached ER (vR0 (nxt c)) 1 ∗ reached ER (vR1 (nxt c)) 1) := rfl
theorem pay_barF_0 : (Rd v).payload (barCell c) 0 false = iprop((∃ f, l1S.view.loc (((prv c) : Dev nD) : Thread nD τ) ↦[l1S.view.set]{fullShare} f) ∗ (∃ f, (outL (prv c)).view.loc (((prv c) : Dev nD) : Thread nD τ) ↦[(outL (prv c)).view.set]{fullShare} f) ∗ (∃ f, (outL c).view.loc (((prv c) : Dev nD) : Thread nD τ) ↦[(outL c).view.set]{fullShare} f) ∗ (∃ f, (outL (nxt c)).view.loc (((prv c) : Dev nD) : Thread nD τ) ↦[(outL (nxt c)).view.set]{fullShare} f)) := rfl
theorem pay_barF_1 : (Rd v).payload (barCell c) 1 false = iprop((∃ f, l0S.view.loc (((prv c) : Dev nD) : Thread nD τ) ↦[l0S.view.set]{fullShare} f)) := rfl
theorem pay_barF_2 : (Rd v).payload (barCell c) 2 false = iprop((∃ f, l1S.view.loc (((prv c) : Dev nD) : Thread nD τ) ↦[l1S.view.set]{fullShare} f) ∗ reached ER (vL0 (prv c)) 1 ∗ reached ER (vL1 (prv c)) 1) := rfl
theorem pay_sR0_0 (d : Bool) : (Rd v).payload (sR0 c) 0 d = iprop((r0S.view.loc ((c : Dev nD) : Thread nD τ) ↦[r0S.view.set]{fullShare} r0S.view.rep (v.sR 0 c))) := rfl
theorem pay_sR0_1 (d : Bool) : (Rd v).payload (sR0 c) 1 d = iprop((r0S.view.loc ((c : Dev nD) : Thread nD τ) ↦[r0S.view.set]{fullShare} r0S.view.rep (v.sR 2 c))) := rfl
theorem pay_sR0_2 (d : Bool) : (Rd v).payload (sR0 c) 2 d = iprop(((outR c).view.loc ((c : Dev nD) : Thread nD τ) ↦[(outR c).view.set]{fullShare} (outR c).view.rep (v.gR c))) := rfl
theorem pay_sR1_0 (d : Bool) : (Rd v).payload (sR1 c) 0 d = iprop((r1S.view.loc ((c : Dev nD) : Thread nD τ) ↦[r1S.view.set]{fullShare} r1S.view.rep (v.sR 1 c))) := rfl
theorem pay_sR1_1 (d : Bool) : (Rd v).payload (sR1 c) 1 d = iprop(((outR (nxt c)).view.loc ((c : Dev nD) : Thread nD τ) ↦[(outR (nxt c)).view.set]{fullShare} (outR (nxt c)).view.rep (v.gR (nxt c)))) := rfl
theorem pay_sR1_2 (d : Bool) : (Rd v).payload (sR1 c) 2 d = iprop(((outR (prv c)).view.loc ((c : Dev nD) : Thread nD τ) ↦[(outR (prv c)).view.set]{fullShare} (outR (prv c)).view.rep (v.gR (prv c)))) := rfl
theorem pay_sL0_0 (d : Bool) : (Rd v).payload (sL0 c) 0 d = iprop((l0S.view.loc ((c : Dev nD) : Thread nD τ) ↦[l0S.view.set]{fullShare} l0S.view.rep (v.sL 0 c))) := rfl
theorem pay_sL0_1 (d : Bool) : (Rd v).payload (sL0 c) 1 d = iprop((l0S.view.loc ((c : Dev nD) : Thread nD τ) ↦[l0S.view.set]{fullShare} l0S.view.rep (v.sL 2 c))) := rfl
theorem pay_sL0_2 (d : Bool) : (Rd v).payload (sL0 c) 2 d = iprop(((outL c).view.loc ((c : Dev nD) : Thread nD τ) ↦[(outL c).view.set]{fullShare} (outL c).view.rep (v.gL c))) := rfl
theorem pay_sL1_0 (d : Bool) : (Rd v).payload (sL1 c) 0 d = iprop((l1S.view.loc ((c : Dev nD) : Thread nD τ) ↦[l1S.view.set]{fullShare} l1S.view.rep (v.sL 1 c))) := rfl
theorem pay_sL1_1 (d : Bool) : (Rd v).payload (sL1 c) 1 d = iprop(((outL (prv c)).view.loc ((c : Dev nD) : Thread nD τ) ↦[(outL (prv c)).view.set]{fullShare} (outL (prv c)).view.rep (v.gL (prv c)))) := rfl
theorem pay_sL1_2 (d : Bool) : (Rd v).payload (sL1 c) 2 d = iprop(((outL (nxt c)).view.loc ((c : Dev nD) : Thread nD τ) ↦[(outL (nxt c)).view.set]{fullShare} (outL (nxt c)).view.rep (v.gL (nxt c)))) := rfl
theorem pay_vR0_0 (d : Bool) : (Rd v).payload (vR0 c) 0 d = iprop((∃ fd, r0S.view.loc ((c : Dev nD) : Thread nD τ) ↦[r0S.view.set]{fullShare} r0S.view.write (Elt F) fd (r1S.view.read (Elt F) (r1S.view.rep (v.sR 1 (prv c)))) Finset.univ) ∗ reached ER (barCell (prv c)) 2) := by show recvR0 v (prv c) 0 = _; simp only [recvR0, nxt_prv, prv_nxt]
theorem pay_vR0_1 (d : Bool) : (Rd v).payload (vR0 c) 1 d = iprop((∃ fd, (outR c).view.loc ((c : Dev nD) : Thread nD τ) ↦[(outR c).view.set]{fullShare} (outR c).view.write (Elt F) fd ((outR c).view.read (Elt F) ((outR c).view.rep (v.gR c))) Finset.univ) ∗ reached ER (vL1 (prv c)) 2) := by show recvR0 v (prv c) 1 = _; simp only [recvR0, nxt_prv, prv_nxt]
theorem pay_vR0_2 (d : Bool) : (Rd v).payload (vR0 c) 2 d = iprop((∃ fd, (outR (prv (prv c))).view.loc ((c : Dev nD) : Thread nD τ) ↦[(outR (prv (prv c))).view.set]{fullShare} (outR (prv (prv c))).view.write (Elt F) fd ((outR (prv (prv c))).view.read (Elt F) ((outR (prv (prv c))).view.rep (v.gR (prv (prv c))))) Finset.univ)) := by show recvR0 v (prv c) 2 = _; simp only [recvR0, nxt_prv, prv_nxt]
theorem pay_vR1_0 (d : Bool) : (Rd v).payload (vR1 c) 0 d = iprop((∃ fd, r1S.view.loc ((c : Dev nD) : Thread nD τ) ↦[r1S.view.set]{fullShare} r1S.view.write (Elt F) fd (r0S.view.read (Elt F) (r0S.view.rep (v.sR 0 (prv c)))) Finset.univ) ∗ reached ER (barCell (prv c)) 1) := by show recvR1 v (prv c) 0 = _; simp only [recvR1, nxt_prv, prv_nxt]
theorem pay_vR1_1 (d : Bool) : (Rd v).payload (vR1 c) 1 d = iprop((∃ fd, r1S.view.loc ((c : Dev nD) : Thread nD τ) ↦[r1S.view.set]{fullShare} r1S.view.write (Elt F) fd (r0S.view.read (Elt F) (r0S.view.rep (v.sR 2 (prv c)))) Finset.univ)) := by show recvR1 v (prv c) 1 = _; simp only [recvR1, nxt_prv, prv_nxt]
theorem pay_vR1_2 (d : Bool) : (Rd v).payload (vR1 c) 2 d = iprop((∃ fd, (outR (prv c)).view.loc ((c : Dev nD) : Thread nD τ) ↦[(outR (prv c)).view.set]{fullShare} (outR (prv c)).view.write (Elt F) fd ((outR (prv c)).view.read (Elt F) ((outR (prv c)).view.rep (v.gR (prv c)))) Finset.univ) ∗ reached ER (vL0 (prv c)) 2) := by show recvR1 v (prv c) 2 = _; simp only [recvR1, nxt_prv, prv_nxt]
theorem pay_vL0_0 (d : Bool) : (Rd v).payload (vL0 c) 0 d = iprop((∃ fd, l0S.view.loc ((c : Dev nD) : Thread nD τ) ↦[l0S.view.set]{fullShare} l0S.view.write (Elt F) fd (l1S.view.read (Elt F) (l1S.view.rep (v.sL 1 (nxt c)))) Finset.univ) ∗ reached ER (barCell (nxt c)) 2) := by show recvL0 v (nxt c) 0 = _; simp only [recvL0, nxt_prv, prv_nxt]
theorem pay_vL0_1 (d : Bool) : (Rd v).payload (vL0 c) 1 d = iprop((∃ fd, (outL c).view.loc ((c : Dev nD) : Thread nD τ) ↦[(outL c).view.set]{fullShare} (outL c).view.write (Elt F) fd ((outL c).view.read (Elt F) ((outL c).view.rep (v.gL c))) Finset.univ) ∗ reached ER (vR1 (nxt c)) 2) := by show recvL0 v (nxt c) 1 = _; simp only [recvL0, nxt_prv, prv_nxt]
theorem pay_vL0_2 (d : Bool) : (Rd v).payload (vL0 c) 2 d = iprop((∃ fd, (outL (nxt (nxt c))).view.loc ((c : Dev nD) : Thread nD τ) ↦[(outL (nxt (nxt c))).view.set]{fullShare} (outL (nxt (nxt c))).view.write (Elt F) fd ((outL (nxt (nxt c))).view.read (Elt F) ((outL (nxt (nxt c))).view.rep (v.gL (nxt (nxt c))))) Finset.univ)) := by show recvL0 v (nxt c) 2 = _; simp only [recvL0, nxt_prv, prv_nxt]
theorem pay_vL1_0 (d : Bool) : (Rd v).payload (vL1 c) 0 d = iprop((∃ fd, l1S.view.loc ((c : Dev nD) : Thread nD τ) ↦[l1S.view.set]{fullShare} l1S.view.write (Elt F) fd (l0S.view.read (Elt F) (l0S.view.rep (v.sL 0 (nxt c)))) Finset.univ) ∗ reached ER (barCell (nxt c)) 1) := by show recvL1 v (nxt c) 0 = _; simp only [recvL1, nxt_prv, prv_nxt]
theorem pay_vL1_1 (d : Bool) : (Rd v).payload (vL1 c) 1 d = iprop((∃ fd, l1S.view.loc ((c : Dev nD) : Thread nD τ) ↦[l1S.view.set]{fullShare} l1S.view.write (Elt F) fd (l0S.view.read (Elt F) (l0S.view.rep (v.sL 2 (nxt c)))) Finset.univ)) := by show recvL1 v (nxt c) 1 = _; simp only [recvL1, nxt_prv, prv_nxt]
theorem pay_vL1_2 (d : Bool) : (Rd v).payload (vL1 c) 2 d = iprop((∃ fd, (outL (nxt c)).view.loc ((c : Dev nD) : Thread nD τ) ↦[(outL (nxt c)).view.set]{fullShare} (outL (nxt c)).view.write (Elt F) fd ((outL (nxt c)).view.read (Elt F) ((outL (nxt c)).view.rep (v.gL (nxt c)))) Finset.univ) ∗ reached ER (vR0 (nxt c)) 2) := by show recvL1 v (nxt c) 2 = _; simp only [recvL1, nxt_prv, prv_nxt]

omit [FloatOps F] in
theorem any_np (M : Memref sig .tc .vmem S192x1536 .bf16) : (iprop(∃ f, M.view.loc ((nxt (prv d) : Dev nD) : Thread nD τ) ↦[M.view.set]{fullShare} f) : sProp 𝕄) = iprop(∃ f, M.view.loc (d : Thread nD τ) ↦[M.view.set]{fullShare} f) := by rw [nxt_prv]
omit [FloatOps F] in
theorem any_pn (M : Memref sig .tc .vmem S192x1536 .bf16) : (iprop(∃ f, M.view.loc ((prv (nxt d) : Dev nD) : Thread nD τ) ↦[M.view.set]{fullShare} f) : sProp 𝕄) = iprop(∃ f, M.view.loc (d : Thread nD τ) ↦[M.view.set]{fullShare} f) := by rw [prv_nxt]
omit [FloatOps F] in
theorem any_outR_np : (iprop(∃ f, (outR (nxt (prv d))).view.loc (e : Thread nD τ) ↦[(outR (nxt (prv d))).view.set]{fullShare} f) : sProp 𝕄) = iprop(∃ f, (outR d).view.loc (e : Thread nD τ) ↦[(outR d).view.set]{fullShare} f) := by rw [nxt_prv]
theorem lnd_outR_np (x : S192x1536.Idx → Elt F .bf16) :
    (iprop(∃ fd, (outR (nxt (prv d))).view.loc (e : Thread nD τ) ↦[(outR (nxt (prv d))).view.set]{fullShare} (outR (nxt (prv d))).view.write (Elt F) fd ((outR (nxt (prv d))).view.read (Elt F) ((outR (nxt (prv d))).view.rep x)) Finset.univ) : sProp 𝕄)
      = iprop(∃ fd, (outR d).view.loc (e : Thread nD τ) ↦[(outR d).view.set]{fullShare} (outR d).view.write (Elt F) fd ((outR d).view.read (Elt F) ((outR d).view.rep x)) Finset.univ) := by rw [nxt_prv]
omit [FloatOps F] in
theorem any_outR_pn : (iprop(∃ f, (outR (prv (nxt d))).view.loc (e : Thread nD τ) ↦[(outR (prv (nxt d))).view.set]{fullShare} f) : sProp 𝕄) = iprop(∃ f, (outR d).view.loc (e : Thread nD τ) ↦[(outR d).view.set]{fullShare} f) := by rw [prv_nxt]
theorem lnd_outR_pn (x : S192x1536.Idx → Elt F .bf16) :
    (iprop(∃ fd, (outR (prv (nxt d))).view.loc (e : Thread nD τ) ↦[(outR (prv (nxt d))).view.set]{fullShare} (outR (prv (nxt d))).view.write (Elt F) fd ((outR (prv (nxt d))).view.read (Elt F) ((outR (prv (nxt d))).view.rep x)) Finset.univ) : sProp 𝕄)
      = iprop(∃ fd, (outR d).view.loc (e : Thread nD τ) ↦[(outR d).view.set]{fullShare} (outR d).view.write (Elt F) fd ((outR d).view.read (Elt F) ((outR d).view.rep x)) Finset.univ) := by rw [prv_nxt]
omit [FloatOps F] in
theorem any_outL_np : (iprop(∃ f, (outL (nxt (prv d))).view.loc (e : Thread nD τ) ↦[(outL (nxt (prv d))).view.set]{fullShare} f) : sProp 𝕄) = iprop(∃ f, (outL d).view.loc (e : Thread nD τ) ↦[(outL d).view.set]{fullShare} f) := by rw [nxt_prv]
theorem lnd_outL_np (x : S192x1536.Idx → Elt F .bf16) :
    (iprop(∃ fd, (outL (nxt (prv d))).view.loc (e : Thread nD τ) ↦[(outL (nxt (prv d))).view.set]{fullShare} (outL (nxt (prv d))).view.write (Elt F) fd ((outL (nxt (prv d))).view.read (Elt F) ((outL (nxt (prv d))).view.rep x)) Finset.univ) : sProp 𝕄)
      = iprop(∃ fd, (outL d).view.loc (e : Thread nD τ) ↦[(outL d).view.set]{fullShare} (outL d).view.write (Elt F) fd ((outL d).view.read (Elt F) ((outL d).view.rep x)) Finset.univ) := by rw [nxt_prv]
omit [FloatOps F] in
theorem any_outL_pn : (iprop(∃ f, (outL (prv (nxt d))).view.loc (e : Thread nD τ) ↦[(outL (prv (nxt d))).view.set]{fullShare} f) : sProp 𝕄) = iprop(∃ f, (outL d).view.loc (e : Thread nD τ) ↦[(outL d).view.set]{fullShare} f) := by rw [prv_nxt]
theorem lnd_outL_pn (x : S192x1536.Idx → Elt F .bf16) :
    (iprop(∃ fd, (outL (prv (nxt d))).view.loc (e : Thread nD τ) ↦[(outL (prv (nxt d))).view.set]{fullShare} (outL (prv (nxt d))).view.write (Elt F) fd ((outL (prv (nxt d))).view.read (Elt F) ((outL (prv (nxt d))).view.rep x)) Finset.univ) : sProp 𝕄)
      = iprop(∃ fd, (outL d).view.loc (e : Thread nD τ) ↦[(outL d).view.set]{fullShare} (outL d).view.write (Elt F) fd ((outL d).view.read (Elt F) ((outL d).view.rep x)) Finset.univ) := by rw [prv_nxt]
theorem dut_bar0 : (Rd v).duties (barCell c) 0 = {true, false} := duties_bar v c 0 (by decide)
theorem dut_bar1 : (Rd v).duties (barCell c) 1 = {true, false} := duties_bar v c 1 (by decide)
theorem dut_bar2 : (Rd v).duties (barCell c) 2 = {true, false} := duties_bar v c 2 (by decide)
omit [FloatOps F] in
theorem sep_eq (P Q : sProp 𝕄) : BI.sep P Q = iprop(P ∗ Q) := rfl
end Tables

/-! ## Contents: arrivals, and the slots of the two streams with and without their unit axis -/

abbrev wM : Memref sig .tc .vmem S1536x3072 .bf16 := Memref.whole cc0_scratch0
abbrev zM : Memref sig .tc .vmem S3072x1536 .bf16 := Memref.whole cc0_scratch1

/-- A slot as the body's loads and stores name it, with its unit axis. -/
abbrev r0A : Memref sig .tc .vmem S1x192x1536 .bf16 := rM.slice (Rect.unit (s := S2x192x1536) ![0, 0, 0] S1x192x1536.size inb_S2x192x1536_S1x192x1536_0_0_0) (fun _ => rfl)
abbrev r1A : Memref sig .tc .vmem S1x192x1536 .bf16 := rM.slice (Rect.unit (s := S2x192x1536) ![1, 0, 0] S1x192x1536.size inb_S2x192x1536_S1x192x1536_1_0_0) (fun _ => rfl)
abbrev l0A : Memref sig .tc .vmem S1x192x1536 .bf16 := lM.slice (Rect.unit (s := S2x192x1536) ![0, 0, 0] S1x192x1536.size inb_S2x192x1536_S1x192x1536_0_0_0) (fun _ => rfl)
abbrev l1A : Memref sig .tc .vmem S1x192x1536 .bf16 := lM.slice (Rect.unit (s := S2x192x1536) ![1, 0, 0] S1x192x1536.size inb_S2x192x1536_S1x192x1536_1_0_0) (fun _ => rfl)

abbrev uns {α : Type} (X : S192x1536.Idx → α) : S1x192x1536.Idx → α := shapeCast S1x192x1536 X shapeCasts_S192x1536_S1x192x1536
abbrev sqz {α : Type} (Y : S1x192x1536.Idx → α) : S192x1536.Idx → α := shapeCast S192x1536 Y shapeCasts_S1x192x1536_S192x1536

/-- What landed, at the values that were sent. -/
theorem landed_at (D M : Memref sig .tc .vmem S192x1536 .bf16) (c : Dev nD) (x : S192x1536.Idx → Elt F .bf16) :
    iprop(∃ fd, D.view.loc (c : Thread nD τ) ↦[D.view.set]{fullShare} D.view.write (Elt F) fd (M.view.read (Elt F) (M.view.rep x)) Finset.univ)
      ⊢ (D.view.loc (c : Thread nD τ) ↦[D.view.set]{fullShare} D.view.rep x : sProp 𝕄) := by
  iintro ⟨%fd, H⟩
  iapply (pointsTo_rep_of_read (c : Thread nD τ) D _ fullShare x (by rw [View.read_write_univ, View.read_rep])) $$ H

/-- A slot held without its unit axis is held with it, -/
theorem slot_uns (A : Memref sig .tc .vmem S1x192x1536 .bf16) (c : Dev nD) (X : S192x1536.Idx → Elt F .bf16) :
    ((A.squeeze S192x1536 squeezes_S1x192x1536_S192x1536).view.loc (c : Thread nD τ) ↦[(A.squeeze S192x1536 squeezes_S1x192x1536_S192x1536).view.set]{fullShare} (A.squeeze S192x1536 squeezes_S1x192x1536_S192x1536).view.rep X : sProp 𝕄)
      ⊢ A.view.loc (c : Thread nD τ) ↦[A.view.set]{fullShare} A.view.rep (uns X) := by
  rw [Memref.set_view_squeeze]
  refine pointsTo_rep_of_read (c : Thread nD τ) A _ fullShare (uns X) ?_
  have h : (A.squeeze S192x1536 squeezes_S1x192x1536_S192x1536).view.read (Elt F) ((A.squeeze S192x1536 squeezes_S1x192x1536_S192x1536).view.rep X) = X := View.read_rep _ X
  have h' : sqz (A.view.read (Elt F) ((A.squeeze S192x1536 squeezes_S1x192x1536_S192x1536).view.rep X)) = X := h
  exact (shapeCast_shapeCast _ _ _).symm.trans (congrArg uns h')

/-- and the other way round, from whatever contents reading as wanted. -/
theorem slot_sqz (A : Memref sig .tc .vmem S1x192x1536 .bf16) (c : Dev nD) (g : Buf (Elt F) (A.view.loc (c : Thread nD τ))) (Y : S1x192x1536.Idx → Elt F .bf16) (h : A.view.read (Elt F) g = Y) :
    (A.view.loc (c : Thread nD τ) ↦[A.view.set]{fullShare} g : sProp 𝕄)
      ⊢ (A.squeeze S192x1536 squeezes_S1x192x1536_S192x1536).view.loc (c : Thread nD τ) ↦[(A.squeeze S192x1536 squeezes_S1x192x1536_S192x1536).view.set]{fullShare} (A.squeeze S192x1536 squeezes_S1x192x1536_S192x1536).view.rep (sqz Y) := by
  refine (BI.BIBase.Entails.of_eq ?_).trans (pointsTo_rep_of_read (c : Thread nD τ) (A.squeeze S192x1536 squeezes_S1x192x1536_S192x1536) g fullShare (sqz Y) ?_)
  · rw [Memref.set_view_squeeze]
  · subst h; rfl

/-! ## What the device computes -/

/-- The partial product of the 192 rows of `X` from `off` on. -/
def part (X : S1536x1536.Idx → Elt F .f32) (W1 : S1536x3072.Idx → Elt F .bf16) (W2 : S3072x1536.Idx → Elt F .bf16) (off : Fin 2 → ℕ)
    (inb : ∀ a, off a + S192x1536.size a ≤ S1536x1536.size a) : FVec F S192x1536 .f32 :=
  k0_pay51 (VecWindow.window X off S192x1536.size inb) W1 W2
abbrev pR (X : S1536x1536.Idx → Elt F .f32) (W1 : S1536x3072.Idx → Elt F .bf16) (W2 : S3072x1536.Idx → Elt F .bf16) (j : Dev nD) : FVec F S192x1536 .f32 :=
  part X W1 W2 (offR j) (offR_inb j)
abbrev pL (X : S1536x1536.Idx → Elt F .f32) (W1 : S1536x3072.Idx → Elt F .bf16) (W2 : S3072x1536.Idx → Elt F .bf16) (j : Dev nD) : FVec F S192x1536 .f32 :=
  part X W1 W2 (offL j) (offL_inb j)

/-- What arrived and a partial product of one's own, added up and rounded: what goes on. -/
def acc (p : FVec F S192x1536 .f32) (Y : FVec F S192x1536 .bf16) : FVec F S192x1536 .bf16 := k0_pay61 p (uns Y)

theorem pay53_eq (p : FVec F S192x1536 .f32) (Y : FVec F S192x1536 .bf16) : k0_pay53 p (uns Y) = uns (acc p Y) := rfl
theorem pay54_eq (p : FVec F S192x1536 .f32) (Y : FVec F S192x1536 .bf16) : k0_pay54 p (uns Y) = uns (acc p Y) := rfl
theorem pay57_eq (p : FVec F S192x1536 .f32) (Y : FVec F S192x1536 .bf16) : k0_pay57 p (uns Y) = uns (acc p Y) := rfl
theorem pay58_eq (p : FVec F S192x1536 .f32) (Y : FVec F S192x1536 .bf16) : k0_pay58 p (uns Y) = uns (acc p Y) := rfl
theorem pay61_eq (p : FVec F S192x1536 .f32) (Y : FVec F S192x1536 .bf16) : k0_pay61 p (uns Y) = acc p Y := rfl
theorem pay62_eq (p : FVec F S192x1536 .f32) (Y : FVec F S192x1536 .bf16) : k0_pay62 p (uns Y) = acc p Y := rfl

theorem part_of (pay : Vec F S192x1536 .f32 → Vec F S1536x3072 .bf16 → Vec F S3072x1536 .bf16 → FVec F S192x1536 .f32) (hp : pay = k0_pay51)
    (X : S1536x1536.Idx → Elt F .f32) (W1 : S1536x3072.Idx → Elt F .bf16) (W2 : S3072x1536.Idx → Elt F .bf16) {off off' : Fin 2 → ℕ}
    (inb : ∀ a, off a + S192x1536.size a ≤ S1536x1536.size a) (h : off = off') (inb' : ∀ a, off' a + S192x1536.size a ≤ S1536x1536.size a) :
    pay (xM.view.readAt (Elt F) (Rect.unit (s := S1536x1536) off S192x1536.size inb).toLoadRect (xM.view.rep X))
        (wM.view.readAt (Elt F) (Rect.unit (s := S1536x3072) ![0, 0] S1536x3072.size inb_S1536x3072_S1536x3072_0_0).toLoadRect (wM.view.rep W1))
        (zM.view.readAt (Elt F) (Rect.unit (s := S3072x1536) ![0, 0] S3072x1536.size inb_S3072x1536_S3072x1536_0_0).toLoadRect (zM.view.rep W2))
      = part X W1 W2 off' inb' := by
  rw [hp, View.readAt_rep_unit _ X inb h inb', View.readAt_rep_full, View.readAt_rep_full]; rfl

/-- What the streams carry: in every hop what arrived and the device's own partial product, chunk by chunk. -/
structure Good (v : Vals F) (X : Dev nD → S1536x1536.Idx → Elt F .f32) (W1 : Dev nD → S1536x3072.Idx → Elt F .bf16) (W2 : Dev nD → S3072x1536.Idx → Elt F .bf16) : Prop where
  r1 : ∀ c, v.sR 1 c = acc (pR (X c) (W1 c) (W2 c) (prv c)) (v.sR 0 (prv c))
  l1 : ∀ c, v.sL 1 c = acc (pL (X c) (W1 c) (W2 c) (nxt c)) (v.sL 0 (nxt c))
  r2 : ∀ c, v.sR 2 c = acc (pR (X c) (W1 c) (W2 c) (prv (prv c))) (v.sR 1 (prv c))
  l2 : ∀ c, v.sL 2 c = acc (pL (X c) (W1 c) (W2 c) (nxt (nxt c))) (v.sL 1 (nxt c))
  r3 : ∀ c, v.gR (nxt c) = acc (pR (X c) (W1 c) (W2 c) (nxt c)) (v.sR 2 (prv c))
  l3 : ∀ c, v.gL (prv c) = acc (pL (X c) (W1 c) (W2 c) (prv c)) (v.sL 2 (nxt c))

/-! ## The invariants of the ring that a device uses -/

/-- A device's own nine cells and the three of each neighbour that it pays; and the levels. -/
def ctx (K : Dev nD × Fin 9 → ℕ) (c : Dev nD) : sProp 𝕄 :=
  iprop(cellInv ER (Rd v) (K (c, 0)) (barCell c) ∗ cellInv ER (Rd v) (K (c, 1)) (sR0 c) ∗ cellInv ER (Rd v) (K (c, 2)) (sR1 c)
    ∗ cellInv ER (Rd v) (K (c, 3)) (vR0 c) ∗ cellInv ER (Rd v) (K (c, 4)) (vR1 c) ∗ cellInv ER (Rd v) (K (c, 5)) (sL0 c) ∗ cellInv ER (Rd v) (K (c, 6)) (sL1 c)
    ∗ cellInv ER (Rd v) (K (c, 7)) (vL0 c) ∗ cellInv ER (Rd v) (K (c, 8)) (vL1 c)
    ∗ cellInv ER (Rd v) (K (nxt c, 0)) (barCell (nxt c)) ∗ cellInv ER (Rd v) (K (nxt c, 3)) (vR0 (nxt c)) ∗ cellInv ER (Rd v) (K (nxt c, 4)) (vR1 (nxt c))
    ∗ cellInv ER (Rd v) (K (prv c, 0)) (barCell (prv c)) ∗ cellInv ER (Rd v) (K (prv c, 7)) (vL0 (prv c)) ∗ cellInv ER (Rd v) (K (prv c, 8)) (vL1 (prv c))
    ∗ levAts L lv)

instance ctx_pers (K : Dev nD × Fin 9 → ℕ) (c : Dev nD) : BI.Persistent (ctx v K c) := by unfold ctx; infer_instance

/-! ## A slot after the body's load and store -/

theorem slot_load (M : Memref sig .tc .vmem S2x192x1536 .bf16) {off : Fin 3 → ℕ} (inb : ∀ a, off a + S1x192x1536.size a ≤ S2x192x1536.size a)
    (g) (S' : Memref sig .tc .vmem S192x1536 .bf16) (Y : S192x1536.Idx → Elt F .bf16) :
    M.view.readAt (Elt F) (Rect.unit (s := S2x192x1536) off S1x192x1536.size inb).toLoadRect
        (((M.slice (Rect.unit (s := S2x192x1536) off S1x192x1536.size inb) (fun _ => rfl)).squeeze S192x1536 squeezes_S1x192x1536_S192x1536).view.write (Elt F) g
          (S'.view.read (Elt F) (S'.view.rep Y)) Finset.univ) = uns Y := by
  have h : sqz (M.view.readAt (Elt F) (Rect.unit (s := S2x192x1536) off S1x192x1536.size inb).toLoadRect
        (((M.slice (Rect.unit (s := S2x192x1536) off S1x192x1536.size inb) (fun _ => rfl)).squeeze S192x1536 squeezes_S1x192x1536_S192x1536).view.write (Elt F) g
          (S'.view.read (Elt F) (S'.view.rep Y)) Finset.univ)) = Y :=
    (View.read_write_univ (v := ((M.slice (Rect.unit (s := S2x192x1536) off S1x192x1536.size inb) (fun _ => rfl)).squeeze S192x1536 squeezes_S1x192x1536_S192x1536).view) g _).trans (View.read_rep _ _)
  exact (shapeCast_shapeCast _ _ _).symm.trans (congrArg uns h)

theorem slot_store (M : Memref sig .tc .vmem S2x192x1536 .bf16) {off : Fin 3 → ℕ} (inb : ∀ a, off a + S1x192x1536.size a ≤ S2x192x1536.size a) (c : Dev nD)
    (g) (w : S1x192x1536.Idx → Elt F .bf16) (Z : S192x1536.Idx → Elt F .bf16) (h : w = uns Z) :
    (((M.slice (Rect.unit (s := S2x192x1536) off S1x192x1536.size inb) (fun _ => rfl)).squeeze S192x1536 squeezes_S1x192x1536_S192x1536).view.loc (c : Thread nD τ)
        ↦[((M.slice (Rect.unit (s := S2x192x1536) off S1x192x1536.size inb) (fun _ => rfl)).squeeze S192x1536 squeezes_S1x192x1536_S192x1536).view.set]{fullShare}
          (M.access (Rect.unit (s := S2x192x1536) off S1x192x1536.size inb)).write (Elt F) g w Finset.univ : sProp 𝕄)
      ⊢ ((M.slice (Rect.unit (s := S2x192x1536) off S1x192x1536.size inb) (fun _ => rfl)).squeeze S192x1536 squeezes_S1x192x1536_S192x1536).view.loc (c : Thread nD τ)
        ↦[((M.slice (Rect.unit (s := S2x192x1536) off S1x192x1536.size inb) (fun _ => rfl)).squeeze S192x1536 squeezes_S1x192x1536_S192x1536).view.set]{fullShare}
          ((M.slice (Rect.unit (s := S2x192x1536) off S1x192x1536.size inb) (fun _ => rfl)).squeeze S192x1536 squeezes_S1x192x1536_S192x1536).view.rep Z := by
  refine pointsTo_rep_of_read (c : Thread nD τ) _ _ fullShare Z ?_
  have h1 := Memref.read_slice_write (Val := Elt F) M inb rfl inb g w
  subst h
  exact (congrArg sqz h1).trans (shapeCast_shapeCast _ _ _)

/-! ## The result's regions under the names the program gives them -/

theorem slice_congr {off off' : Fin 2 → ℕ} (e : off = off') (h hs h') :
    oM.slice (Rect.unit (s := S1536x1536) off S192x1536.size h) hs = oM.slice (Rect.unit (s := S1536x1536) off' S192x1536.size h') (fun _ => rfl) := by
  subst e; rfl

section Canon
variable (c : Dev nD) {h} {hs}
@[sl_canon] theorem canon5_0 : oM.slice (Rect.unit (s := S1536x1536) (k0_off5 c 0#32) S192x1536.size h) hs = outR (nxt c) := slice_congr (off5_0 c) _ _ _
@[sl_canon] theorem canon5_1 : oM.slice (Rect.unit (s := S1536x1536) (k0_off5 c 1#32) S192x1536.size h) hs = outR c := slice_congr (off5_1 c) _ _ _
@[sl_canon] theorem canon5_2 : oM.slice (Rect.unit (s := S1536x1536) (k0_off5 c 2#32) S192x1536.size h) hs = outR (prv c) := slice_congr (off5_2 c) _ _ _
@[sl_canon] theorem canon6_0 : oM.slice (Rect.unit (s := S1536x1536) (k0_off6 c 0#32) S192x1536.size h) hs = outL (prv c) := slice_congr (off6_0 c) _ _ _
@[sl_canon] theorem canon6_1 : oM.slice (Rect.unit (s := S1536x1536) (k0_off6 c 1#32) S192x1536.size h) hs = outL c := slice_congr (off6_1 c) _ _ _
@[sl_canon] theorem canon6_2 : oM.slice (Rect.unit (s := S1536x1536) (k0_off6 c 2#32) S192x1536.size h) hs = outL (nxt c) := slice_congr (off6_2 c) _ _ _
end Canon

/-- A region named by another offset is the same region. -/
theorem any_slice (d : Dev nD) {off off' : Fin 2 → ℕ} (e : off = off') {h} {h'} :
    (any_ (F := F) (oM.slice (Rect.unit (s := S1536x1536) off S192x1536.size h) (fun _ => rfl)) d : sProp 𝕄)
      = any_ (oM.slice (Rect.unit (s := S1536x1536) off' S192x1536.size h') (fun _ => rfl)) d := by subst e; rfl
theorem at_slice (d : Dev nD) {off off' : Fin 2 → ℕ} (e : off = off') {h} {h'} (x) :
    (at_ (F := F) (oM.slice (Rect.unit (s := S1536x1536) off S192x1536.size h) (fun _ => rfl)) d x : sProp 𝕄)
      = at_ (oM.slice (Rect.unit (s := S1536x1536) off' S192x1536.size h') (fun _ => rfl)) d x := by subst e; rfl

/-! ## What the last two arrivals carry, seen from the sender -/

section Sender
variable (v : Vals F) (c : Dev nD) (d : Bool)
theorem pay_vR1n_2 : (Rd v).payload (vR1 (nxt c)) 2 d = iprop((∃ fd, (outR c).view.loc ((nxt c : Dev nD) : Thread nD τ) ↦[(outR c).view.set]{fullShare} (outR c).view.write (Elt F) fd ((outR c).view.read (Elt F) ((outR c).view.rep (v.gR c))) Finset.univ) ∗ reached ER (vL0 c) 2) := by rw [pay_vR1_2, prv_nxt]
theorem pay_vL1p_2 : (Rd v).payload (vL1 (prv c)) 2 d = iprop((∃ fd, (outL c).view.loc ((prv c : Dev nD) : Thread nD τ) ↦[(outL c).view.set]{fullShare} (outL c).view.write (Elt F) fd ((outL c).view.read (Elt F) ((outL c).view.rep (v.gL c))) Finset.univ) ∗ reached ER (vR0 c) 2) := by rw [pay_vL1_2, nxt_prv]
theorem pay_vR0n_2 : (Rd v).payload (vR0 (nxt c)) 2 d = iprop((∃ fd, (outR (prv c)).view.loc ((nxt c : Dev nD) : Thread nD τ) ↦[(outR (prv c)).view.set]{fullShare} (outR (prv c)).view.write (Elt F) fd ((outR (prv c)).view.read (Elt F) ((outR (prv c)).view.rep (v.gR (prv c)))) Finset.univ)) := by rw [pay_vR0_2, prv_nxt]
theorem pay_vL0p_2 : (Rd v).payload (vL0 (prv c)) 2 d = iprop((∃ fd, (outL (nxt c)).view.loc ((prv c : Dev nD) : Thread nD τ) ↦[(outL (nxt c)).view.set]{fullShare} (outL (nxt c)).view.write (Elt F) fd ((outL (nxt c)).view.read (Elt F) ((outL (nxt c)).view.rep (v.gL (nxt c)))) Finset.univ)) := by rw [pay_vL0_2, nxt_prv]
end Sender

end Cert.RingMlp

end
-- ==== Proof.Entry.lean ====
/-
# The entry: the weights streamed in and narrowed, and the device's own chunk
-/
module

public import proofs.«01_k».proof.Proof.Tables

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (v : Vals F)

attribute [local sl_rounds high] pay_vR1n_2 pay_vL1p_2 pay_vR0n_2 pay_vL0p_2
attribute [local sl_rounds] pay_barT_0 pay_barT_1 pay_barT_2 pay_barF_0 pay_barF_1 pay_barF_2 pay_sR0_0 pay_sR0_1 pay_sR0_2 pay_sR1_0 pay_sR1_1 pay_sR1_2 pay_sL0_0 pay_sL0_1 pay_sL0_2 pay_sL1_0 pay_sL1_1 pay_sL1_2 pay_vR0_0 pay_vR0_1 pay_vR0_2 pay_vR1_0 pay_vR1_1 pay_vR1_2 pay_vL0_0 pay_vL0_1 pay_vL0_2 pay_vL1_0 pay_vL1_1 pay_vL1_2 any_np any_pn any_outR_np lnd_outR_np any_outR_pn lnd_outR_pn any_outL_np lnd_outL_np any_outL_pn lnd_outL_pn dut_bar0 expect_bar0 duties_sR0_0 expect_sR0_0 duties_sR1_0 expect_sR1_0 duties_vR0_0 expect_vR0_0 duties_vR1_0 expect_vR1_0 duties_sL0_0 expect_sL0_0 duties_sL1_0 expect_sL1_0 duties_vL0_0 expect_vL0_0 duties_vL1_0 expect_vL1_0 dut_bar1 expect_bar1 duties_sR0_1 expect_sR0_1 duties_sR1_1 expect_sR1_1 duties_vR0_1 expect_vR0_1 duties_vR1_1 expect_vR1_1 duties_sL0_1 expect_sL0_1 duties_sL1_1 expect_sL1_1 duties_vL0_1 expect_vL0_1 duties_vL1_1 expect_vL1_1 dut_bar2 expect_bar2 duties_sR0_2 expect_sR0_2 duties_sR1_2 expect_sR1_2 duties_vR0_2 expect_vR0_2 duties_vR1_2 expect_vR1_2 duties_sL0_2 expect_sL0_2 duties_sL1_2 expect_sL1_2 duties_vL0_2 expect_vL0_2 duties_vL1_2 expect_vL1_2 sep_eq amount_bar amount_dma nxt_prv prv_nxt

abbrev a1M : Memref sig .tc .hbm S1536x3072 .f32 := Memref.whole main_arg1
abbrev a2M : Memref sig .tc .hbm S3072x1536 .f32 := Memref.whole main_arg2
abbrev s1M : Memref sig .tc .vmem S2x192x3072 .f32 := Memref.whole cc0_scratch2
abbrev s2M : Memref sig .tc .vmem S2x384x1536 .f32 := Memref.whole cc0_scratch3
abbrev s10 : Memref sig .tc .vmem S192x3072 .f32 :=
  (s1M.slice (Rect.unit (s := S2x192x3072) ![0, 0, 0] S1x192x3072.size inb_S2x192x3072_S1x192x3072_0_0_0) (fun _ => rfl)).squeeze S192x3072 squeezes_S1x192x3072_S192x3072
abbrev s11 : Memref sig .tc .vmem S192x3072 .f32 :=
  (s1M.slice (Rect.unit (s := S2x192x3072) ![1, 0, 0] S1x192x3072.size inb_S2x192x3072_S1x192x3072_1_0_0) (fun _ => rfl)).squeeze S192x3072 squeezes_S1x192x3072_S192x3072
abbrev s20 : Memref sig .tc .vmem S384x1536 .f32 :=
  (s2M.slice (Rect.unit (s := S2x384x1536) ![0, 0, 0] S1x384x1536.size inb_S2x384x1536_S1x384x1536_0_0_0) (fun _ => rfl)).squeeze S384x1536 squeezes_S1x384x1536_S384x1536
abbrev s21 : Memref sig .tc .vmem S384x1536 .f32 :=
  (s2M.slice (Rect.unit (s := S2x384x1536) ![1, 0, 0] S1x384x1536.size inb_S2x384x1536_S1x384x1536_1_0_0) (fun _ => rfl)).squeeze S384x1536 squeezes_S1x384x1536_S384x1536
abbrev heldH {s : Shape} {e : EltTy} (M : Memref sig .tc .hbm s e) (c : Dev nD) (f : Buf (Elt F) (M.view.loc (c : Thread nD τ))) : sProp 𝕄 :=
  M.view.loc (c : Thread nD τ) ↦[M.view.set]{fullShare} f
/-- The four semaphores of the local copies, at zero. -/
abbrev quiet (c : Dev nD) : sProp 𝕄 :=
  iprop(semVal ((c : Thread nD τ), .dma ⟨2, by decide⟩) 0 ∗ semVal ((c : Thread nD τ), .dma ⟨3, by decide⟩) 0
    ∗ semVal ((c : Thread nD τ), .dma ⟨4, by decide⟩) 0 ∗ semVal ((c : Thread nD τ), .dma ⟨5, by decide⟩) 0)

/-! ## Blocks of the weights, and what the entry computes from them -/

theorem shapeCasts_S192x3072_S1x192x3072 : S192x3072.ShapeCasts S1x192x3072 := by decide
theorem shapeCasts_S384x1536_S1x384x1536 : S384x1536.ShapeCasts S1x384x1536 := by decide
abbrev uns1 {α : Type} (X : S192x3072.Idx → α) : S1x192x3072.Idx → α := shapeCast S1x192x3072 X shapeCasts_S192x3072_S1x192x3072
abbrev uns2 {α : Type} (X : S384x1536.Idx → α) : S1x384x1536.Idx → α := shapeCast S1x384x1536 X shapeCasts_S384x1536_S1x384x1536

/-- The weights as the body keeps them: narrowed, element by element. -/
def wV (A : S1536x3072.Idx → Elt F .f32) : S1536x3072.Idx → Elt F .bf16 := (truncf .bf16 (A : FVec F S1536x3072 .f32) bitsLt_bf16_f32 : FVec F S1536x3072 .bf16)
def zV (A : S3072x1536.Idx → Elt F .f32) : S3072x1536.Idx → Elt F .bf16 := (truncf .bf16 (A : FVec F S3072x1536 .f32) bitsLt_bf16_f32 : FVec F S3072x1536 .bf16)

/-- 192 rows of the first weights, and 384 rows of the second, from row `o` on. -/
abbrev blk1 (A : S1536x3072.Idx → Elt F .f32) (o : ℕ) (h : ∀ a, (![o, 0] : Fin 2 → ℕ) a + S192x3072.size a ≤ S1536x3072.size a) : S192x3072.Idx → Elt F .f32 :=
  VecWindow.window A ![o, 0] S192x3072.size h
abbrev blk2 (A : S3072x1536.Idx → Elt F .f32) (o : ℕ) (h : ∀ a, (![o, 0] : Fin 2 → ℕ) a + S384x1536.size a ≤ S3072x1536.size a) : S384x1536.Idx → Elt F .f32 :=
  VecWindow.window A ![o, 0] S384x1536.size h

abbrev b1_0 (A : S1536x3072.Idx → Elt F .f32) := uns1 (blk1 A 0 inb_S1536x3072_S192x3072_0_0)
abbrev b1_192 (A : S1536x3072.Idx → Elt F .f32) := uns1 (blk1 A 192 inb_S1536x3072_S192x3072_192_0)
abbrev b1_384 (A : S1536x3072.Idx → Elt F .f32) := uns1 (blk1 A 384 inb_S1536x3072_S192x3072_384_0)
abbrev b1_576 (A : S1536x3072.Idx → Elt F .f32) := uns1 (blk1 A 576 inb_S1536x3072_S192x3072_576_0)
abbrev b1_768 (A : S1536x3072.Idx → Elt F .f32) := uns1 (blk1 A 768 inb_S1536x3072_S192x3072_768_0)
abbrev b1_960 (A : S1536x3072.Idx → Elt F .f32) := uns1 (blk1 A 960 inb_S1536x3072_S192x3072_960_0)
abbrev b1_1152 (A : S1536x3072.Idx → Elt F .f32) := uns1 (blk1 A 1152 inb_S1536x3072_S192x3072_1152_0)
abbrev b1_1344 (A : S1536x3072.Idx → Elt F .f32) := uns1 (blk1 A 1344 inb_S1536x3072_S192x3072_1344_0)
abbrev b2_0 (A : S3072x1536.Idx → Elt F .f32) := uns2 (blk2 A 0 inb_S3072x1536_S384x1536_0_0)
abbrev b2_384 (A : S3072x1536.Idx → Elt F .f32) := uns2 (blk2 A 384 inb_S3072x1536_S384x1536_384_0)
abbrev b2_768 (A : S3072x1536.Idx → Elt F .f32) := uns2 (blk2 A 768 inb_S3072x1536_S384x1536_768_0)
abbrev b2_1152 (A : S3072x1536.Idx → Elt F .f32) := uns2 (blk2 A 1152 inb_S3072x1536_S384x1536_1152_0)
abbrev b2_1536 (A : S3072x1536.Idx → Elt F .f32) := uns2 (blk2 A 1536 inb_S3072x1536_S384x1536_1536_0)
abbrev b2_1920 (A : S3072x1536.Idx → Elt F .f32) := uns2 (blk2 A 1920 inb_S3072x1536_S384x1536_1920_0)
abbrev b2_2304 (A : S3072x1536.Idx → Elt F .f32) := uns2 (blk2 A 2304 inb_S3072x1536_S384x1536_2304_0)
abbrev b2_2688 (A : S3072x1536.Idx → Elt F .f32) := uns2 (blk2 A 2688 inb_S3072x1536_S384x1536_2688_0)

/-- The rows of `X` of a device's own chunk, narrowed. -/
def xSeed (X : S1536x1536.Idx → Elt F .f32) (c : Dev nD) : FVec F S384x1536 .bf16 :=
  k0_pay1 (VecWindow.window X (k0_off1 c) S384x1536.size (k0_off1_inb c))
/-- The hidden activations of the own chunk, summed over the eight blocks of the first weights. -/
def hSeed (x : FVec F S384x1536 .bf16) (A : S1536x3072.Idx → Elt F .f32) : FVec F S384x3072 .bf16 :=
  k0_pay23 x (k0_pay20 x (k0_pay15 x (k0_pay12 x (k0_pay7 x (k0_pay4 x (b1_0 A)) (b1_192 A)) (b1_384 A) (b1_576 A)) (b1_768 A)) (b1_960 A) (b1_1152 A)) (b1_1344 A)
/-- Their product with the first seven blocks of the second weights. -/
def pSeed (h : FVec F S384x3072 .bf16) (A : S3072x1536.Idx → Elt F .f32) : FVec F S384x1536 .f32 :=
  k0_pay42 h (k0_pay39 h (k0_pay33 h (k0_pay30 h k0_pay24 (k0_pay25 (b2_0 A)) (b2_384 A)) (b2_768 A)) (k0_pay34 (b2_1152 A)) (b2_1536 A)) (b2_1920 A)
/-- The own chunk's partial product, its right and its left half narrowed: what the two streams start with. -/
def seedR (X : S1536x1536.Idx → Elt F .f32) (A1 : S1536x3072.Idx → Elt F .f32) (A2 : S3072x1536.Idx → Elt F .f32) (c : Dev nD) : FVec F S192x1536 .bf16 :=
  sqz (k0_pay49 (hSeed (xSeed X c) A1) (pSeed (hSeed (xSeed X c) A1) A2) (k0_pay43 (b2_2304 A2)) (b2_2688 A2))
def seedL (X : S1536x1536.Idx → Elt F .f32) (A1 : S1536x3072.Idx → Elt F .f32) (A2 : S3072x1536.Idx → Elt F .f32) (c : Dev nD) : FVec F S192x1536 .bf16 :=
  sqz (k0_pay50 (hSeed (xSeed X c) A1) (pSeed (hSeed (xSeed X c) A1) A2) (k0_pay43 (b2_2304 A2)) (b2_2688 A2))

/-! ## Reading a staging slot, and the narrowed blocks put together -/

theorem read_writes_whole {s : Shape} {e : EltTy} {sp : Space} {v : View sig .tc sp s e} (g : v.ref.ty.Contents (Elt F)) (w : s.Idx → Elt F e) (Lw) :
    v.read (Elt F) (v.writes (Elt F) g (⟨Rect.whole s, w⟩ :: Lw)) = w :=
  funext fun y => by
    have h := View.read_writes_cons_emb (v := v) (f := g) (Rect.whole s) w Lw y
    rw [Rect.emb_whole_apply] at h
    exact h

theorem stage1 {off : Fin 3 → ℕ} (inb : ∀ a, off a + S1x192x3072.size a ≤ S2x192x3072.size a) (g) (w : S192x3072.Idx → Elt F .f32) (Lw) :
    s1M.view.readAt (Elt F) (Rect.unit (s := S2x192x3072) off S1x192x3072.size inb).toLoadRect
        (((s1M.slice (Rect.unit (s := S2x192x3072) off S1x192x3072.size inb) (fun _ => rfl)).squeeze S192x3072 squeezes_S1x192x3072_S192x3072).view.writes (Elt F) g
          (⟨Rect.whole S192x3072, w⟩ :: Lw)) = uns1 w := by
  have h : shapeCast S192x3072 (s1M.view.readAt (Elt F) (Rect.unit (s := S2x192x3072) off S1x192x3072.size inb).toLoadRect
        (((s1M.slice (Rect.unit (s := S2x192x3072) off S1x192x3072.size inb) (fun _ => rfl)).squeeze S192x3072 squeezes_S1x192x3072_S192x3072).view.writes (Elt F) g
          (⟨Rect.whole S192x3072, w⟩ :: Lw))) shapeCasts_S1x192x3072_S192x3072 = w :=
    read_writes_whole (F := F) (v := ((s1M.slice (Rect.unit (s := S2x192x3072) off S1x192x3072.size inb) (fun _ => rfl)).squeeze S192x3072 squeezes_S1x192x3072_S192x3072).view) g w Lw
  exact (shapeCast_shapeCast _ _ _).symm.trans (congrArg uns1 h)

theorem stage2 {off : Fin 3 → ℕ} (inb : ∀ a, off a + S1x384x1536.size a ≤ S2x384x1536.size a) (g) (w : S384x1536.Idx → Elt F .f32) (Lw) :
    s2M.view.readAt (Elt F) (Rect.unit (s := S2x384x1536) off S1x384x1536.size inb).toLoadRect
        (((s2M.slice (Rect.unit (s := S2x384x1536) off S1x384x1536.size inb) (fun _ => rfl)).squeeze S384x1536 squeezes_S1x384x1536_S384x1536).view.writes (Elt F) g
          (⟨Rect.whole S384x1536, w⟩ :: Lw)) = uns2 w := by
  have h : shapeCast S384x1536 (s2M.view.readAt (Elt F) (Rect.unit (s := S2x384x1536) off S1x384x1536.size inb).toLoadRect
        (((s2M.slice (Rect.unit (s := S2x384x1536) off S1x384x1536.size inb) (fun _ => rfl)).squeeze S384x1536 squeezes_S1x384x1536_S384x1536).view.writes (Elt F) g
          (⟨Rect.whole S384x1536, w⟩ :: Lw))) shapeCasts_S1x384x1536_S384x1536 = w :=
    read_writes_whole (v := ((s2M.slice (Rect.unit (s := S2x384x1536) off S1x384x1536.size inb) (fun _ => rfl)).squeeze S384x1536 squeezes_S1x384x1536_S384x1536).view) g w Lw
  exact (shapeCast_shapeCast _ _ _).symm.trans (congrArg uns2 h)

/-- A narrowed block is the block of the narrowed weights. -/
theorem narrow1 (Y : S192x3072.Idx → Elt F .f32) : k0_pay3 (uns1 Y) = (truncf .bf16 (Y : FVec F S192x3072 .f32) bitsLt_bf16_f32 : FVec F S192x3072 .bf16) := by
  unfold k0_pay3 k0_pay2
  dsimp only
  rw [shapeCast_self, shapeCast_shapeCast]
theorem narrow2 (Y : S384x1536.Idx → Elt F .f32) : k0_pay29 (uns2 Y) = (truncf .bf16 (Y : FVec F S384x1536 .f32) bitsLt_bf16_f32 : FVec F S384x1536 .bf16) := by
  unfold k0_pay29 k0_pay28
  dsimp only
  rw [shapeCast_self, shapeCast_shapeCast]

/-- The eight narrowed blocks stored one below the other are the narrowed weights. -/
theorem cover1 (A : S1536x3072.Idx → Elt F .f32) (c : Dev nD) (f : Buf (Elt F) (wM.view.loc (c : Thread nD τ))) (p0 p192 p384 p576 p768 p960 p1152 p1344 : S192x3072.Idx → Elt F .bf16)
    (h0 : p0 = (truncf .bf16 (blk1 A 0 inb_S1536x3072_S192x3072_0_0 : FVec F S192x3072 .f32) bitsLt_bf16_f32 : FVec F S192x3072 .bf16)) (h192 : p192 = (truncf .bf16 (blk1 A 192 inb_S1536x3072_S192x3072_192_0 : FVec F S192x3072 .f32) bitsLt_bf16_f32 : FVec F S192x3072 .bf16)) (h384 : p384 = (truncf .bf16 (blk1 A 384 inb_S1536x3072_S192x3072_384_0 : FVec F S192x3072 .f32) bitsLt_bf16_f32 : FVec F S192x3072 .bf16)) (h576 : p576 = (truncf .bf16 (blk1 A 576 inb_S1536x3072_S192x3072_576_0 : FVec F S192x3072 .f32) bitsLt_bf16_f32 : FVec F S192x3072 .bf16)) (h768 : p768 = (truncf .bf16 (blk1 A 768 inb_S1536x3072_S192x3072_768_0 : FVec F S192x3072 .f32) bitsLt_bf16_f32 : FVec F S192x3072 .bf16)) (h960 : p960 = (truncf .bf16 (blk1 A 960 inb_S1536x3072_S192x3072_960_0 : FVec F S192x3072 .f32) bitsLt_bf16_f32 : FVec F S192x3072 .bf16)) (h1152 : p1152 = (truncf .bf16 (blk1 A 1152 inb_S1536x3072_S192x3072_1152_0 : FVec F S192x3072 .f32) bitsLt_bf16_f32 : FVec F S192x3072 .bf16)) (h1344 : p1344 = (truncf .bf16 (blk1 A 1344 inb_S1536x3072_S192x3072_1344_0 : FVec F S192x3072 .f32) bitsLt_bf16_f32 : FVec F S192x3072 .bf16)) :
    (wM.view.loc (c : Thread nD τ) ↦[wM.view.set]{fullShare} wM.view.writes (Elt F) f
      [⟨Rect.unit ![1344, 0] S192x3072.size inb_S1536x3072_S192x3072_1344_0, p1344⟩,
        ⟨Rect.unit ![1152, 0] S192x3072.size inb_S1536x3072_S192x3072_1152_0, p1152⟩,
        ⟨Rect.unit ![960, 0] S192x3072.size inb_S1536x3072_S192x3072_960_0, p960⟩,
        ⟨Rect.unit ![768, 0] S192x3072.size inb_S1536x3072_S192x3072_768_0, p768⟩,
        ⟨Rect.unit ![576, 0] S192x3072.size inb_S1536x3072_S192x3072_576_0, p576⟩,
        ⟨Rect.unit ![384, 0] S192x3072.size inb_S1536x3072_S192x3072_384_0, p384⟩,
        ⟨Rect.unit ![192, 0] S192x3072.size inb_S1536x3072_S192x3072_192_0, p192⟩,
        ⟨Rect.unit ![0, 0] S192x3072.size inb_S1536x3072_S192x3072_0_0, p0⟩] : sProp 𝕄) ⊢ wM.view.loc (c : Thread nD τ) ↦[wM.view.set]{fullShare} wM.view.rep (wV A) := by
  subst h0 h192 h384 h576 h768 h960 h1152 h1344
  refine pointsTo_rep_of_read (c : Thread nD τ) wM _ fullShare (wV A) (funext fun y => View.read_writes_apply_of_pieces (v := wM.view) (f := f) (wV A) _ ?_ y ?_)
  · simp only [List.forall_mem_cons]
    exact ⟨fun _ => rfl, fun _ => rfl, fun _ => rfl, fun _ => rfl, fun _ => rfl, fun _ => rfl, fun _ => rfl, fun _ => rfl, fun _ h => absurd h List.not_mem_nil⟩
  · have hm : ∀ (o : ℕ) (inb : ∀ a, (![o, 0] : Fin 2 → ℕ) a + S192x3072.size a ≤ S1536x3072.size a), o ≤ (y 0).val → (y 0).val < o + 192 → y ∈ (Rect.unit (s := S1536x3072) ![o, 0] S192x3072.size inb).set :=
      fun o inb ha hb => Rect.mem_set_unit.mpr (Fin.forall_fin_two.mpr ⟨⟨ha, hb⟩, ⟨Nat.zero_le _, (Nat.zero_add _).symm ▸ (y 1).isLt⟩⟩)
    have h0 : (y 0).val < 1536 := (y 0).isLt
    rcases (by omega : (1344 ≤ (y 0).val ∧ (y 0).val < 1344 + 192) ∨ (1152 ≤ (y 0).val ∧ (y 0).val < 1152 + 192) ∨ (960 ≤ (y 0).val ∧ (y 0).val < 960 + 192) ∨ (768 ≤ (y 0).val ∧ (y 0).val < 768 + 192) ∨ (576 ≤ (y 0).val ∧ (y 0).val < 576 + 192) ∨ (384 ≤ (y 0).val ∧ (y 0).val < 384 + 192) ∨ (192 ≤ (y 0).val ∧ (y 0).val < 192 + 192) ∨ (0 ≤ (y 0).val ∧ (y 0).val < 0 + 192)) with h | h | h | h | h | h | h | h
    · exact ⟨_, .head _, hm _ inb_S1536x3072_S192x3072_1344_0 h.1 h.2⟩
    · exact ⟨_, .tail _ (.head _), hm _ inb_S1536x3072_S192x3072_1152_0 h.1 h.2⟩
    · exact ⟨_, .tail _ (.tail _ (.head _)), hm _ inb_S1536x3072_S192x3072_960_0 h.1 h.2⟩
    · exact ⟨_, .tail _ (.tail _ (.tail _ (.head _))), hm _ inb_S1536x3072_S192x3072_768_0 h.1 h.2⟩
    · exact ⟨_, .tail _ (.tail _ (.tail _ (.tail _ (.head _)))), hm _ inb_S1536x3072_S192x3072_576_0 h.1 h.2⟩
    · exact ⟨_, .tail _ (.tail _ (.tail _ (.tail _ (.tail _ (.head _))))), hm _ inb_S1536x3072_S192x3072_384_0 h.1 h.2⟩
    · exact ⟨_, .tail _ (.tail _ (.tail _ (.tail _ (.tail _ (.tail _ (.head _)))))), hm _ inb_S1536x3072_S192x3072_192_0 h.1 h.2⟩
    · exact ⟨_, .tail _ (.tail _ (.tail _ (.tail _ (.tail _ (.tail _ (.tail _ (.head _))))))), hm _ inb_S1536x3072_S192x3072_0_0 h.1 h.2⟩

theorem cover2 (A : S3072x1536.Idx → Elt F .f32) (c : Dev nD) (f : Buf (Elt F) (zM.view.loc (c : Thread nD τ))) (p0 p384 p768 p1152 p1536 p1920 p2304 p2688 : S384x1536.Idx → Elt F .bf16)
    (h0 : p0 = (truncf .bf16 (blk2 A 0 inb_S3072x1536_S384x1536_0_0 : FVec F S384x1536 .f32) bitsLt_bf16_f32 : FVec F S384x1536 .bf16)) (h384 : p384 = (truncf .bf16 (blk2 A 384 inb_S3072x1536_S384x1536_384_0 : FVec F S384x1536 .f32) bitsLt_bf16_f32 : FVec F S384x1536 .bf16)) (h768 : p768 = (truncf .bf16 (blk2 A 768 inb_S3072x1536_S384x1536_768_0 : FVec F S384x1536 .f32) bitsLt_bf16_f32 : FVec F S384x1536 .bf16)) (h1152 : p1152 = (truncf .bf16 (blk2 A 1152 inb_S3072x1536_S384x1536_1152_0 : FVec F S384x1536 .f32) bitsLt_bf16_f32 : FVec F S384x1536 .bf16)) (h1536 : p1536 = (truncf .bf16 (blk2 A 1536 inb_S3072x1536_S384x1536_1536_0 : FVec F S384x1536 .f32) bitsLt_bf16_f32 : FVec F S384x1536 .bf16)) (h1920 : p1920 = (truncf .bf16 (blk2 A 1920 inb_S3072x1536_S384x1536_1920_0 : FVec F S384x1536 .f32) bitsLt_bf16_f32 : FVec F S384x1536 .bf16)) (h2304 : p2304 = (truncf .bf16 (blk2 A 2304 inb_S3072x1536_S384x1536_2304_0 : FVec F S384x1536 .f32) bitsLt_bf16_f32 : FVec F S384x1536 .bf16)) (h2688 : p2688 = (truncf .bf16 (blk2 A 2688 inb_S3072x1536_S384x1536_2688_0 : FVec F S384x1536 .f32) bitsLt_bf16_f32 : FVec F S384x1536 .bf16)) :
    (zM.view.loc (c : Thread nD τ) ↦[zM.view.set]{fullShare} zM.view.writes (Elt F) f
      [⟨Rect.unit ![2688, 0] S384x1536.size inb_S3072x1536_S384x1536_2688_0, p2688⟩,
        ⟨Rect.unit ![2304, 0] S384x1536.size inb_S3072x1536_S384x1536_2304_0, p2304⟩,
        ⟨Rect.unit ![1920, 0] S384x1536.size inb_S3072x1536_S384x1536_1920_0, p1920⟩,
        ⟨Rect.unit ![1536, 0] S384x1536.size inb_S3072x1536_S384x1536_1536_0, p1536⟩,
        ⟨Rect.unit ![1152, 0] S384x1536.size inb_S3072x1536_S384x1536_1152_0, p1152⟩,
        ⟨Rect.unit ![768, 0] S384x1536.size inb_S3072x1536_S384x1536_768_0, p768⟩,
        ⟨Rect.unit ![384, 0] S384x1536.size inb_S3072x1536_S384x1536_384_0, p384⟩,
        ⟨Rect.unit ![0, 0] S384x1536.size inb_S3072x1536_S384x1536_0_0, p0⟩] : sProp 𝕄) ⊢ zM.view.loc (c : Thread nD τ) ↦[zM.view.set]{fullShare} zM.view.rep (zV A) := by
  subst h0 h384 h768 h1152 h1536 h1920 h2304 h2688
  refine pointsTo_rep_of_read (c : Thread nD τ) zM _ fullShare (zV A) (funext fun y => View.read_writes_apply_of_pieces (v := zM.view) (f := f) (zV A) _ ?_ y ?_)
  · simp only [List.forall_mem_cons]
    exact ⟨fun _ => rfl, fun _ => rfl, fun _ => rfl, fun _ => rfl, fun _ => rfl, fun _ => rfl, fun _ => rfl, fun _ => rfl, fun _ h => absurd h List.not_mem_nil⟩
  · have hm : ∀ (o : ℕ) (inb : ∀ a, (![o, 0] : Fin 2 → ℕ) a + S384x1536.size a ≤ S3072x1536.size a), o ≤ (y 0).val → (y 0).val < o + 384 → y ∈ (Rect.unit (s := S3072x1536) ![o, 0] S384x1536.size inb).set :=
      fun o inb ha hb => Rect.mem_set_unit.mpr (Fin.forall_fin_two.mpr ⟨⟨ha, hb⟩, ⟨Nat.zero_le _, (Nat.zero_add _).symm ▸ (y 1).isLt⟩⟩)
    have h0 : (y 0).val < 3072 := (y 0).isLt
    rcases (by omega : (2688 ≤ (y 0).val ∧ (y 0).val < 2688 + 384) ∨ (2304 ≤ (y 0).val ∧ (y 0).val < 2304 + 384) ∨ (1920 ≤ (y 0).val ∧ (y 0).val < 1920 + 384) ∨ (1536 ≤ (y 0).val ∧ (y 0).val < 1536 + 384) ∨ (1152 ≤ (y 0).val ∧ (y 0).val < 1152 + 384) ∨ (768 ≤ (y 0).val ∧ (y 0).val < 768 + 384) ∨ (384 ≤ (y 0).val ∧ (y 0).val < 384 + 384) ∨ (0 ≤ (y 0).val ∧ (y 0).val < 0 + 384)) with h | h | h | h | h | h | h | h
    · exact ⟨_, .head _, hm _ inb_S3072x1536_S384x1536_2688_0 h.1 h.2⟩
    · exact ⟨_, .tail _ (.head _), hm _ inb_S3072x1536_S384x1536_2304_0 h.1 h.2⟩
    · exact ⟨_, .tail _ (.tail _ (.head _)), hm _ inb_S3072x1536_S384x1536_1920_0 h.1 h.2⟩
    · exact ⟨_, .tail _ (.tail _ (.tail _ (.head _))), hm _ inb_S3072x1536_S384x1536_1536_0 h.1 h.2⟩
    · exact ⟨_, .tail _ (.tail _ (.tail _ (.tail _ (.head _)))), hm _ inb_S3072x1536_S384x1536_1152_0 h.1 h.2⟩
    · exact ⟨_, .tail _ (.tail _ (.tail _ (.tail _ (.tail _ (.head _))))), hm _ inb_S3072x1536_S384x1536_768_0 h.1 h.2⟩
    · exact ⟨_, .tail _ (.tail _ (.tail _ (.tail _ (.tail _ (.tail _ (.head _)))))), hm _ inb_S3072x1536_S384x1536_384_0 h.1 h.2⟩
    · exact ⟨_, .tail _ (.tail _ (.tail _ (.tail _ (.tail _ (.tail _ (.tail _ (.head _))))))), hm _ inb_S3072x1536_S384x1536_0_0 h.1 h.2⟩

/-- The entry: the weights streamed in block by block and narrowed, and the device's own chunk computed on the way. -/
theorem entry (c : Dev nD) (W : Waits sig ℕ) (X : S1536x1536.Idx → Elt F .f32) (B1 : Buf (Elt F) (a1M.view.loc (c : Thread nD τ))) (B2 : Buf (Elt F) (a2M.view.loc (c : Thread nD τ)))
    (rest : Dev nD → BitVec 32 → BitVec 32 → BitVec 32 → Sems sig S_ → BitVec 32 → Prog (TpuEff nD τ sig (Elt F) Λ₀ .tc) PUnit) (Q : PUnit → sProp 𝕄) :
    iprop(levAts L lv ∗ at_ xM c X
        ∗ heldH a1M c B1 ∗ heldH a2M c B2
        ∗ any_ wM c ∗ any_ zM c ∗ any_ s10 c ∗ any_ s11 c ∗ any_ s20 c ∗ any_ s21 c ∗ any_ r0S c ∗ any_ l0S c ∗ quiet c ∗ owes c (O0 c) W
        ∗ (∀ v2 v14 v25 e, iprop(at_ xM c X ∗ heldH a1M c B1 ∗ heldH a2M c B2
            ∗ at_ wM c (wV (a1M.view.read (Elt F) B1)) ∗ at_ zM c (zV (a2M.view.read (Elt F) B2)) ∗ any_ s10 c ∗ any_ s11 c ∗ any_ s20 c ∗ any_ s21 c
            ∗ at_ r0S c (seedR X (a1M.view.read (Elt F) B1) (a2M.view.read (Elt F) B2) c) ∗ at_ l0S c (seedL X (a1M.view.read (Elt F) B1) (a2M.view.read (Elt F) B2) c) ∗ quiet c ∗ (∃ W', owes c (O0 c) W'))
          -∗ wp frame (wpE (defs₀ (F := F)) 𝒱₀ (c : Thread nD τ) none) Set.univ (rest c v2 v14 v25 (SemArray.scalar (sig.barrier 0 rfl)) e) Q))
      ⊢ wp frame (wpE (defs₀ (F := F)) 𝒱₀ (c : Thread nD τ) none) Set.univ
          (do
            let ⟨d0, v2, v14, v25, v30⟩ ← k0_part1 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11
            let v60 ← k0_part2 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v30
            let v79 ← k0_part3 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v30 v60
            let v117 ← k0_part4 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v30 v79
            let v136 ← k0_part5 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v30 v117
            let v174 ← k0_part6 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v30 v136
            let ⟨v191, v192, v204⟩ ← k0_part7 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v30 v174
            let v230 ← k0_part8 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v191 v192 v204
            let ⟨v249, v261⟩ ← k0_part9 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v191 v230
            let v287 ← k0_part10 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v191 v249 v261
            let ⟨v306, v318⟩ ← k0_part11 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v191 v287
            let ⟨v350, e⟩ ← k0_part12 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v191 v306 v318
            rest d0 v2 v14 v25 v350 e) Q := by
  have hm0 := (Above.mayWait (F := F) (c := c) (sm := .dma ⟨2, by decide⟩) (r := 0) (by decide) (above0 c))
  have hm1 := (Above.mayWait (F := F) (c := c) (sm := .dma ⟨3, by decide⟩) (r := 0) (by decide) (above0 c))
  have hm2 := (Above.mayWait (F := F) (c := c) (sm := .dma ⟨4, by decide⟩) (r := 0) (by decide) (above0 c))
  have hm3 := (Above.mayWait (F := F) (c := c) (sm := .dma ⟨5, by decide⟩) (r := 0) (by decide) (above0 c))
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold any_ at_ held heldH quiet
  iintro ⟨#Hlev, Hx, Ha1, Ha2, ⟨%fw, Hw⟩, ⟨%fz, Hz⟩, ⟨%fs, Hs⟩, ⟨%fs', Hs'⟩, ⟨%ft, Ht⟩, ⟨%ft', Ht'⟩, ⟨%fr, Hr⟩, ⟨%fl, Hl⟩, ⟨Hq2, Hq3, Hq4, Hq5⟩, HO, HK⟩
  sl_exec
  have ev52 : entry.sl.v52 c B1 = b1_0 (a1M.view.read (Elt F) B1) := stage1 inb_S2x192x3072_S1x192x3072_0_0_0 _ _ _
  have ev71 : entry.sl.v71 c B1 = b1_192 (a1M.view.read (Elt F) B1) := stage1 inb_S2x192x3072_S1x192x3072_1_0_0 _ _ _
  have ev90 : entry.sl.v90 c B1 = b1_384 (a1M.view.read (Elt F) B1) := stage1 inb_S2x192x3072_S1x192x3072_0_0_0 _ _ _
  have ev109 : entry.sl.v109 c B1 = b1_576 (a1M.view.read (Elt F) B1) := stage1 inb_S2x192x3072_S1x192x3072_1_0_0 _ _ _
  have ev128 : entry.sl.v128 c B1 = b1_768 (a1M.view.read (Elt F) B1) := stage1 inb_S2x192x3072_S1x192x3072_0_0_0 _ _ _
  have ev147 : entry.sl.v147 c B1 = b1_960 (a1M.view.read (Elt F) B1) := stage1 inb_S2x192x3072_S1x192x3072_1_0_0 _ _ _
  have ev166 : entry.sl.v166 c B1 = b1_1152 (a1M.view.read (Elt F) B1) := stage1 inb_S2x192x3072_S1x192x3072_0_0_0 _ _ _
  have ev180 : entry.sl.v180 c B1 = b1_1344 (a1M.view.read (Elt F) B1) := stage1 inb_S2x192x3072_S1x192x3072_1_0_0 _ _ _
  have ev203 : entry.sl.v203 c B2 = b2_0 (a2M.view.read (Elt F) B2) := stage2 inb_S2x384x1536_S1x384x1536_0_0_0 _ _ _
  have ev222 : entry.sl.v222 c B2 = b2_384 (a2M.view.read (Elt F) B2) := stage2 inb_S2x384x1536_S1x384x1536_1_0_0 _ _ _
  have ev241 : entry.sl.v241 c B2 = b2_768 (a2M.view.read (Elt F) B2) := stage2 inb_S2x384x1536_S1x384x1536_0_0_0 _ _ _
  have ev260 : entry.sl.v260 c B2 = b2_1152 (a2M.view.read (Elt F) B2) := stage2 inb_S2x384x1536_S1x384x1536_1_0_0 _ _ _
  have ev279 : entry.sl.v279 c B2 = b2_1536 (a2M.view.read (Elt F) B2) := stage2 inb_S2x384x1536_S1x384x1536_0_0_0 _ _ _
  have ev298 : entry.sl.v298 c B2 = b2_1920 (a2M.view.read (Elt F) B2) := stage2 inb_S2x384x1536_S1x384x1536_1_0_0 _ _ _
  have ev317 : entry.sl.v317 c B2 = b2_2304 (a2M.view.read (Elt F) B2) := stage2 inb_S2x384x1536_S1x384x1536_0_0_0 _ _ _
  have ev331 : entry.sl.v331 c B2 = b2_2688 (a2M.view.read (Elt F) B2) := stage2 inb_S2x384x1536_S1x384x1536_1_0_0 _ _ _
  have er : entry.sl.r c X = xSeed X c := congrArg k0_pay1 (View.readAt_rep_unit xM.view X _ rfl _)
  have e6 : entry.sl.r_6 c X B1 = hSeed (xSeed X c) (a1M.view.read (Elt F) B1) := by
    unfold hSeed; rw [← er, ← ev52, ← ev71, ← ev90, ← ev109, ← ev128, ← ev147, ← ev166, ← ev180]; rfl
  have e12 : entry.sl.r_12 c X B1 B2 = pSeed (hSeed (xSeed X c) (a1M.view.read (Elt F) B1)) (a2M.view.read (Elt F) B2) := by
    unfold pSeed; rw [← e6, ← ev203, ← ev222, ← ev241, ← ev260, ← ev279, ← ev298]; rfl
  ispecialize HK $$ %(entry.sl.v2 c) %(entry.sl.v14 c) %(entry.sl.v25 c) %(1#32)
  iapply HK
  isplitl [Hx]; · iexact Hx
  isplitl [Ha1]; · iexact Ha1
  isplitl [Ha2]; · iexact Ha2
  isplitl [Hw]
  · iapply (cover1 (a1M.view.read (Elt F) B1) c fw (k0_pay3 (entry.sl.v52 c B1)) (k0_pay6 (entry.sl.v71 c B1)) (k0_pay9 (entry.sl.v90 c B1)) (k0_pay11 (entry.sl.v109 c B1)) (k0_pay14 (entry.sl.v128 c B1)) (k0_pay17 (entry.sl.v147 c B1)) (k0_pay19 (entry.sl.v166 c B1)) (k0_pay22 (entry.sl.v180 c B1)) ((congrArg k0_pay3 ev52).trans (narrow1 _)) ((congrArg k0_pay3 ev71).trans (narrow1 _)) ((congrArg k0_pay3 ev90).trans (narrow1 _)) ((congrArg k0_pay3 ev109).trans (narrow1 _)) ((congrArg k0_pay3 ev128).trans (narrow1 _)) ((congrArg k0_pay3 ev147).trans (narrow1 _)) ((congrArg k0_pay3 ev166).trans (narrow1 _)) ((congrArg k0_pay3 ev180).trans (narrow1 _))) $$ Hw
  isplitl [Hz]
  · iapply (cover2 (a2M.view.read (Elt F) B2) c fz (k0_pay27 (entry.sl.r_7 c B2)) (k0_pay29 (entry.sl.v222 c B2)) (k0_pay32 (entry.sl.v241 c B2)) (k0_pay36 (entry.sl.r_10 c B2)) (k0_pay38 (entry.sl.v279 c B2)) (k0_pay41 (entry.sl.v298 c B2)) (k0_pay45 (entry.sl.r_13 c B2)) (k0_pay47 (entry.sl.v331 c B2)) ((congrArg k0_pay29 ev203).trans (narrow2 _)) ((congrArg k0_pay29 ev222).trans (narrow2 _)) ((congrArg k0_pay29 ev241).trans (narrow2 _)) ((congrArg k0_pay29 ev260).trans (narrow2 _)) ((congrArg k0_pay29 ev279).trans (narrow2 _)) ((congrArg k0_pay29 ev298).trans (narrow2 _)) ((congrArg k0_pay29 ev317).trans (narrow2 _)) ((congrArg k0_pay29 ev331).trans (narrow2 _))) $$ Hz
  isplitl [Hs]; · iexists _; iexact Hs
  isplitl [Hs']; · iexists _; iexact Hs'
  isplitl [Ht]; · iexists _; iexact Ht
  isplitl [Ht']; · iexists _; iexact Ht'
  isplitl [Hr]
  · unfold entry.sl.Hr_w1
    iapply (slot_store rM inb_S2x192x1536_S1x192x1536_0_0_0 c fr (k0_pay49 (entry.sl.r_6 c X B1) (entry.sl.r_12 c X B1 B2) (entry.sl.r_13 c B2) (entry.sl.v331 c B2)) (seedR X (a1M.view.read (Elt F) B1) (a2M.view.read (Elt F) B2) c) ?_) $$ Hr
    · unfold seedR; rw [← e12, ← e6, ← ev331, ← ev317]; exact (shapeCast_shapeCast _ _ _).symm
  isplitl [Hl]
  · unfold entry.sl.Hl_w2
    iapply (slot_store lM inb_S2x192x1536_S1x192x1536_0_0_0 c fl (k0_pay50 (entry.sl.r_6 c X B1) (entry.sl.r_12 c X B1 B2) (entry.sl.r_13 c B2) (entry.sl.v331 c B2)) (seedL X (a1M.view.read (Elt F) B1) (a2M.view.read (Elt F) B2) c) ?_) $$ Hl
    · unfold seedL; rw [← e12, ← e6, ← ev331, ← ev317]; exact (shapeCast_shapeCast _ _ _).symm
  isplitl [Hq2 Hq3 Hq4 Hq5]
  · isplitl [Hq2]; · iexact Hq2
    isplitl [Hq3]; · iexact Hq3
    isplitl [Hq4]; · iexact Hq4
    iexact Hq5
  iexists _; iexact HO

end Cert.RingMlp

end
-- ==== Proof.Hop0.lean ====
/-
# The first hop of the reduce-scatter
-/
module

public import proofs.«01_k».proof.Proof.Tables

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (v : Vals F)

attribute [local sl_rounds high] pay_vR1n_2 pay_vL1p_2 pay_vR0n_2 pay_vL0p_2
attribute [local sl_rounds] pay_barT_0 pay_barT_1 pay_barT_2 pay_barF_0 pay_barF_1 pay_barF_2 pay_sR0_0 pay_sR0_1 pay_sR0_2 pay_sR1_0 pay_sR1_1 pay_sR1_2 pay_sL0_0 pay_sL0_1 pay_sL0_2 pay_sL1_0 pay_sL1_1 pay_sL1_2 pay_vR0_0 pay_vR0_1 pay_vR0_2 pay_vR1_0 pay_vR1_1 pay_vR1_2 pay_vL0_0 pay_vL0_1 pay_vL0_2 pay_vL1_0 pay_vL1_1 pay_vL1_2 any_np any_pn any_outR_np lnd_outR_np any_outR_pn lnd_outR_pn any_outL_np lnd_outL_np any_outL_pn lnd_outL_pn dut_bar0 expect_bar0 duties_sR0_0 expect_sR0_0 duties_sR1_0 expect_sR1_0 duties_vR0_0 expect_vR0_0 duties_vR1_0 expect_vR1_0 duties_sL0_0 expect_sL0_0 duties_sL1_0 expect_sL1_0 duties_vL0_0 expect_vL0_0 duties_vL1_0 expect_vL1_0 dut_bar1 expect_bar1 duties_sR0_1 expect_sR0_1 duties_sR1_1 expect_sR1_1 duties_vR0_1 expect_vR0_1 duties_vR1_1 expect_vR1_1 duties_sL0_1 expect_sL0_1 duties_sL1_1 expect_sL1_1 duties_vL0_1 expect_vL0_1 duties_vL1_1 expect_vL1_1 dut_bar2 expect_bar2 duties_sR0_2 expect_sR0_2 duties_sR1_2 expect_sR1_2 duties_vR0_2 expect_vR0_2 duties_vR1_2 expect_vR1_2 duties_sL0_2 expect_sL0_2 duties_sL1_2 expect_sL1_2 duties_vL0_2 expect_vL0_2 duties_vL1_2 expect_vL1_2 sep_eq amount_bar amount_dma nxt_prv prv_nxt

/-- The first hop, its handshake included. -/
theorem hop0 (K : Dev nD × Fin 9 → ℕ) (c : Dev nD) (W : Waits sig ℕ) (X : Dev nD → S1536x1536.Idx → Elt F .f32) (W1 : Dev nD → S1536x3072.Idx → Elt F .bf16) (W2 : Dev nD → S3072x1536.Idx → Elt F .bf16)
    (hG : Good v X W1 W2) (v2 v14 v25 e : BitVec 32) (rest : Prog (TpuEff nD τ sig (Elt F) Λ₀ .tc) PUnit) (Q : PUnit → sProp 𝕄) :
    iprop(ctx v K c
        ∗ reached ER (barCell (nxt c)) 0 ∗ reached ER (barCell (prv c)) 0 ∗ reached ER (sR0 c) 0 ∗ reached ER (sL0 c) 0
        ∗ reached ER (vR1 (nxt c)) 0 ∗ reached ER (vL1 (prv c)) 0
        ∗ dutyTok ER (barCell (prv c)) 0 true ∗ dutyTok ER (barCell (nxt c)) 0 false
        ∗ dutyTok ER (sR0 c) 0 false ∗ dutyTok ER (sL0 c) 0 false ∗ dutyTok ER (vR1 (nxt c)) 0 false ∗ dutyTok ER (vL1 (prv c)) 0 false
        ∗ atPos ER (barCell c) 0 ∅ 0 ∗ cred (tallyAt (barCell c) 0 2)
        ∗ atPos ER (sR0 c) 0 ∅ 0 ∗ atPos ER (sL0 c) 0 ∅ 0 ∗ atPos ER (vR1 c) 0 ∅ 0 ∗ cred (tallyAt (vR1 c) 0 N) ∗ atPos ER (vL1 c) 0 ∅ 0 ∗ cred (tallyAt (vL1 c) 0 N)
        ∗ any_ r1S c ∗ any_ (outR c) c ∗ any_ (outR (prv c)) c ∗ any_ (outR (prv (prv c))) c
        ∗ any_ l1S c ∗ any_ (outL c) c ∗ any_ (outL (nxt c)) c ∗ any_ (outL (nxt (nxt c))) c
        ∗ at_ r0S c (v.sR 0 c) ∗ at_ l0S c (v.sL 0 c)
        ∗ at_ xM c (X c) ∗ at_ wM c (W1 c) ∗ at_ zM c (W2 c)
        ∗ owes c (O0 c) W
        ∗ (iprop((∃ W', owes c (O1 c) W')
            ∗ reached ER (barCell c) 1 ∗ reached ER (barCell (nxt c)) 1 ∗ reached ER (barCell (prv c)) 1
            ∗ reached ER (sR0 c) 1 ∗ reached ER (sL0 c) 1 ∗ reached ER (vR1 c) 1 ∗ reached ER (vL1 c) 1
            ∗ atPos ER (barCell c) 1 ∅ 0 ∗ atPos ER (sR0 c) 1 ∅ 0 ∗ atPos ER (sL0 c) 1 ∅ 0 ∗ atPos ER (vR1 c) 1 ∅ 0 ∗ atPos ER (vL1 c) 1 ∅ 0
            ∗ any_ (outR (nxt c)) (nxt c) ∗ any_ (outR c) (nxt c) ∗ any_ (outR (prv c)) (nxt c)
            ∗ any_ (outL (prv c)) (prv c) ∗ any_ (outL c) (prv c) ∗ any_ (outL (nxt c)) (prv c)
            ∗ at_ r1S c (v.sR 1 c) ∗ at_ l1S c (v.sL 1 c) ∗ any_ r0S c ∗ any_ l0S c
            ∗ at_ xM c (X c) ∗ at_ wM c (W1 c) ∗ at_ zM c (W2 c))
          -∗ wp frame (wpE (defs₀ (F := F)) 𝒱₀ (c : Thread nD τ) none) Set.univ rest Q))
      ⊢ wp frame (wpE (defs₀ (F := F)) 𝒱₀ (c : Thread nD τ) none) Set.univ
          (do
            let ⟨v375, c4, v376⟩ ← k0_part13 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v14 v25 (SemArray.scalar (sig.barrier 0 rfl)) e
            let ⟨v410, v412⟩ ← k0_part14 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v375 c4 v376
            let v423 ← k0_part15 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v25 v412
            k0_part16 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v14 v410 v423
            rest) Q := by
  have hd1 := dev1_eq c; have hd2 := dev2_eq c; have hd3 := dev3_eq c; have hd4 := dev4_eq c
  have hm0 := (Above.mayWait (F := F) (c := c) (sm := .reg barS) (r := 0) (by decide) (above0' c))
  have hm1 := (Above.mayWait (F := F) (c := c) (sm := .dma ⟨6, by decide⟩) (r := 0) (by decide) ((above1 c).mono (Nat.zero_le _)))
  have hm2 := (Above.mayWait (F := F) (c := c) (sm := .dma ⟨9, by decide⟩) (r := 0) (by decide) (above1 c))
  have hm3 := (Above.mayWait (F := F) (c := c) (sm := .dma ⟨10, by decide⟩) (r := 0) (by decide) ((above1 c).mono (Nat.zero_le _)))
  have hm4 := (Above.mayWait (F := F) (c := c) (sm := .dma ⟨13, by decide⟩) (r := 0) (by decide) (above1 c))
  simp only [k0_part13_eq_skeleton, k0_part14_eq_skeleton, k0_part15_eq_skeleton, k0_part16_eq_skeleton]
  unfold ctx any_ at_ held
  iintro ⟨⟨#HIb, #HIsR0, #HIsR1, #HIvR0, #HIvR1, #HIsL0, #HIsL1, #HIvL0, #HIvL1, #HIbn, #HInR0, #HInR1, #HIbp, #HIpL0, #HIpL1, #Hlev⟩, #Hr1, #Hr2, #Hr3, #Hr4, #Hr5, #Hr6, Ht1, Ht2, Ht3, Ht4, Ht5, Ht6, Hat, Hc, HatsR, HatsL, HatvR, HcR, HatvL, HcL,
    ⟨%f1, Hf1⟩, ⟨%f2, Hf2⟩, ⟨%f3, Hf3⟩, ⟨%f4, Hf4⟩, ⟨%f5, Hf5⟩, ⟨%f6, Hf6⟩, ⟨%f7, Hf7⟩, ⟨%f8, Hf8⟩, Hs, Hl, Hx, Hw, Hz, HO, HK⟩
  have hO : O0 c = O1 c + dR vR1 0 c + dL vL1 0 c + bP 0 c + bN 0 c := rfl
  rw [hO]
  sl_exec
  icases Hat_pay1 with ⟨⟨%g1, Hg1⟩, ⟨%g2, Hg2⟩, ⟨%g3, Hg3⟩, ⟨%g4, Hg4⟩⟩
  ihave #Hbr := Hat_reached
  sl_exec
  unfold hop0.sl.HatvR_pay1_w1 hop0.sl.HatvL_pay1_w2
  ihave HR := (slot_store rM inb_S2x192x1536_S1x192x1536_1_0_0 c _ _ (v.sR 1 c) (by
    unfold hop0.sl.r hop0.sl.v452; rw [slot_load, part_of k0_pay51 rfl (X c) (W1 c) (W2 c) _ (off2_0 c) (offR_inb _), hG.r1 c]; rfl)) $$ HatvR_pay1
  ihave HL := (slot_store lM inb_S2x192x1536_S1x192x1536_1_0_0 c _ _ (v.sL 1 c) (by
    unfold hop0.sl.r_1 hop0.sl.v456; rw [slot_load, part_of k0_pay52 rfl (X c) (W1 c) (W2 c) _ (off3_0 c) (offL_inb _), hG.l1 c]; rfl)) $$ HatvL_pay1
  iapply HK
  isplitl [HO]; · iexists _; iexact HO
  isplitl []; · iexact Hbr
  isplitl [HatvL_pay2]; · iexact HatvL_pay2
  isplitl [HatvR_pay2]; · iexact HatvR_pay2
  isplitl [HatsR_reached]; · iexact HatsR_reached
  isplitl [HatsL_reached]; · iexact HatsL_reached
  isplitl [HatvR_reached]; · iexact HatvR_reached
  isplitl [HatvL_reached]; · iexact HatvL_reached
  isplitl [Hat]; · iexact Hat
  isplitl [HatsR]; · iexact HatsR
  isplitl [HatsL]; · iexact HatsL
  isplitl [HatvR]; · iexact HatvR
  isplitl [HatvL]; · iexact HatvL
  isplitl [Hg2]; · iexists _; iexact Hg2
  isplitl [Hg3]; · iexists _; iexact Hg3
  isplitl [Hg4]; · iexists _; iexact Hg4
  isplitl [Hat_pay3]; · iexists _; iexact Hat_pay3
  isplitl [Hat_pay4]; · iexists _; iexact Hat_pay4
  isplitl [Hat_pay5]; · iexists _; iexact Hat_pay5
  isplitl [HR]; · iexact HR
  isplitl [HL]; · iexact HL
  isplitl [HatsR_pay1]; · iexists _; iexact HatsR_pay1
  isplitl [HatsL_pay1]; · iexists _; iexact HatsL_pay1
  isplitl [Hx]; · iexact Hx
  isplitl [Hw]; · iexact Hw
  iexact Hz

end Cert.RingMlp

end
-- ==== Proof.Hop1.lean ====
/-
# The second hop of the reduce-scatter
-/
module

public import proofs.«01_k».proof.Proof.Tables

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (v : Vals F)

attribute [local sl_rounds high] pay_vR1n_2 pay_vL1p_2 pay_vR0n_2 pay_vL0p_2
attribute [local sl_rounds] pay_barT_0 pay_barT_1 pay_barT_2 pay_barF_0 pay_barF_1 pay_barF_2 pay_sR0_0 pay_sR0_1 pay_sR0_2 pay_sR1_0 pay_sR1_1 pay_sR1_2 pay_sL0_0 pay_sL0_1 pay_sL0_2 pay_sL1_0 pay_sL1_1 pay_sL1_2 pay_vR0_0 pay_vR0_1 pay_vR0_2 pay_vR1_0 pay_vR1_1 pay_vR1_2 pay_vL0_0 pay_vL0_1 pay_vL0_2 pay_vL1_0 pay_vL1_1 pay_vL1_2 any_np any_pn any_outR_np lnd_outR_np any_outR_pn lnd_outR_pn any_outL_np lnd_outL_np any_outL_pn lnd_outL_pn dut_bar0 expect_bar0 duties_sR0_0 expect_sR0_0 duties_sR1_0 expect_sR1_0 duties_vR0_0 expect_vR0_0 duties_vR1_0 expect_vR1_0 duties_sL0_0 expect_sL0_0 duties_sL1_0 expect_sL1_0 duties_vL0_0 expect_vL0_0 duties_vL1_0 expect_vL1_0 dut_bar1 expect_bar1 duties_sR0_1 expect_sR0_1 duties_sR1_1 expect_sR1_1 duties_vR0_1 expect_vR0_1 duties_vR1_1 expect_vR1_1 duties_sL0_1 expect_sL0_1 duties_sL1_1 expect_sL1_1 duties_vL0_1 expect_vL0_1 duties_vL1_1 expect_vL1_1 dut_bar2 expect_bar2 duties_sR0_2 expect_sR0_2 duties_sR1_2 expect_sR1_2 duties_vR0_2 expect_vR0_2 duties_vR1_2 expect_vR1_2 duties_sL0_2 expect_sL0_2 duties_sL1_2 expect_sL1_2 duties_vL0_2 expect_vL0_2 duties_vL1_2 expect_vL1_2 sep_eq amount_bar amount_dma nxt_prv prv_nxt

/-- The second hop, its handshake included. -/
theorem hop1 (K : Dev nD × Fin 9 → ℕ) (c : Dev nD) (W : Waits sig ℕ) (X : Dev nD → S1536x1536.Idx → Elt F .f32) (W1 : Dev nD → S1536x3072.Idx → Elt F .bf16) (W2 : Dev nD → S3072x1536.Idx → Elt F .bf16)
    (hG : Good v X W1 W2) (v2 v14 v25 : BitVec 32) (rest : Prog (TpuEff nD τ sig (Elt F) Λ₀ .tc) PUnit) (Q : PUnit → sProp 𝕄) :
    iprop(ctx v K c
        ∗ reached ER (barCell (nxt c)) 1
        ∗ reached ER (barCell (prv c)) 1
        ∗ reached ER (sR1 c) 0
        ∗ reached ER (sL1 c) 0
        ∗ reached ER (vR0 (nxt c)) 0
        ∗ reached ER (vL0 (prv c)) 0
        ∗ dutyTok ER (barCell (prv c)) 1 true
        ∗ dutyTok ER (barCell (nxt c)) 1 false
        ∗ dutyTok ER (sR1 c) 0 false
        ∗ dutyTok ER (sL1 c) 0 false
        ∗ dutyTok ER (vR0 (nxt c)) 0 false
        ∗ dutyTok ER (vL0 (prv c)) 0 false
        ∗ atPos ER (barCell c) 1 ∅ 0
        ∗ cred (tallyAt (barCell c) 1 2)
        ∗ atPos ER (sR1 c) 0 ∅ 0
        ∗ atPos ER (sL1 c) 0 ∅ 0
        ∗ atPos ER (vR0 c) 0 ∅ 0
        ∗ cred (tallyAt (vR0 c) 0 N)
        ∗ atPos ER (vL0 c) 0 ∅ 0
        ∗ cred (tallyAt (vL0 c) 0 N)
        ∗ any_ r0S c
        ∗ any_ l0S c
        ∗ at_ r1S c (v.sR 1 c)
        ∗ at_ l1S c (v.sL 1 c)
        ∗ at_ xM c (X c)
        ∗ at_ wM c (W1 c)
        ∗ at_ zM c (W2 c)
        ∗ owes c (O1 c) W
        ∗ (iprop((∃ W', owes c (O2 c) W')
            ∗ reached ER (barCell c) 2
            ∗ reached ER (barCell (nxt c)) 2
            ∗ reached ER (barCell (prv c)) 2
            ∗ reached ER (sR1 c) 1
            ∗ reached ER (sL1 c) 1
            ∗ reached ER (vR0 c) 1
            ∗ reached ER (vL0 c) 1
            ∗ atPos ER (barCell c) 2 ∅ 0
            ∗ atPos ER (sR1 c) 1 ∅ 0
            ∗ atPos ER (sL1 c) 1 ∅ 0
            ∗ atPos ER (vR0 c) 1 ∅ 0
            ∗ atPos ER (vL0 c) 1 ∅ 0
            ∗ at_ r0S c (v.sR 2 c)
            ∗ at_ l0S c (v.sL 2 c)
            ∗ any_ r1S c
            ∗ any_ l1S c
            ∗ at_ xM c (X c)
            ∗ at_ wM c (W1 c)
            ∗ at_ zM c (W2 c))
          -∗ wp frame (wpE (defs₀ (F := F)) 𝒱₀ (c : Thread nD τ) none) Set.univ rest Q))
      ⊢ wp frame (wpE (defs₀ (F := F)) 𝒱₀ (c : Thread nD τ) none) Set.univ
          (do
            let ⟨v492, c4, c0⟩ ← k0_part17 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v14 v25 (SemArray.scalar (sig.barrier 0 rfl))
            let ⟨v527, v528, c192⟩ ← k0_part18 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v492 c4 c0
            let v540 ← k0_part19 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v25 v528 c192
            k0_part20 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v14 v527 v540
            rest) Q := by
  have hd1 := dev5_eq c; have hd2 := dev6_eq c; have hd3 := dev7_eq c; have hd4 := dev8_eq c
  have hm0 := (Above.mayWait (F := F) (c := c) (sm := .reg barS) (r := 1) (by decide) (above1' c))
  have hm1 := (Above.mayWait (F := F) (c := c) (sm := .dma ⟨7, by decide⟩) (r := 0) (by decide) ((above2 c).mono (Nat.zero_le _)))
  have hm2 := (Above.mayWait (F := F) (c := c) (sm := .dma ⟨8, by decide⟩) (r := 0) (by decide) (above2 c))
  have hm3 := (Above.mayWait (F := F) (c := c) (sm := .dma ⟨11, by decide⟩) (r := 0) (by decide) ((above2 c).mono (Nat.zero_le _)))
  have hm4 := (Above.mayWait (F := F) (c := c) (sm := .dma ⟨12, by decide⟩) (r := 0) (by decide) (above2 c))
  simp only [k0_part17_eq_skeleton, k0_part18_eq_skeleton, k0_part19_eq_skeleton, k0_part20_eq_skeleton]
  unfold ctx any_ at_ held
  iintro ⟨⟨#HIb, #HIsR0, #HIsR1, #HIvR0, #HIvR1, #HIsL0, #HIsL1, #HIvL0, #HIvL1, #HIbn, #HInR0, #HInR1, #HIbp, #HIpL0, #HIpL1, #Hlev⟩, #Hr1, #Hr2, #Hr3, #Hr4, #Hr5, #Hr6, Ht1, Ht2, Ht3, Ht4, Ht5, Ht6, Hat, Hc, HatsR, HatsL, HatvR, HcR, HatvL, HcL, ⟨%fHf1, Hf1⟩, ⟨%fHf2, Hf2⟩, Hs, Hl, Hx, Hw, Hz, HO, HK⟩
  have hO : O1 c = O2 c + dR vR0 0 c + dL vL0 0 c + bP 1 c + bN 1 c := rfl
  rw [hO]
  sl_exec
  ihave #Hbr := Hat_reached
  unfold hop1.sl.HatvR_pay1_w1 hop1.sl.HatvL_pay1_w2
  ihave HR := (slot_store rM inb_S2x192x1536_S1x192x1536_0_0_0 c _ _ (v.sR 2 c) (by
    unfold hop1.sl.r hop1.sl.v569; rw [slot_load, part_of k0_pay55 rfl (X c) (W1 c) (W2 c) _ (off2_1 c) (offR_inb _), hG.r2 c]; rfl)) $$ HatvR_pay1
  ihave HL := (slot_store lM inb_S2x192x1536_S1x192x1536_0_0_0 c _ _ (v.sL 2 c) (by
    unfold hop1.sl.r_1 hop1.sl.v573; rw [slot_load, part_of k0_pay56 rfl (X c) (W1 c) (W2 c) _ (off3_1 c) (offL_inb _), hG.l2 c]; rfl)) $$ HatvL_pay1
  iapply HK
  isplitl [HO]; · iexists _; iexact HO
  isplitl []; · iexact Hbr
  isplitl [HatvL_pay2]; · iexact HatvL_pay2
  isplitl [HatvR_pay2]; · iexact HatvR_pay2
  isplitl [HatsR_reached]; · iexact HatsR_reached
  isplitl [HatsL_reached]; · iexact HatsL_reached
  isplitl [HatvR_reached]; · iexact HatvR_reached
  isplitl [HatvL_reached]; · iexact HatvL_reached
  isplitl [Hat]; · iexact Hat
  isplitl [HatsR]; · iexact HatsR
  isplitl [HatsL]; · iexact HatsL
  isplitl [HatvR]; · iexact HatvR
  isplitl [HatvL]; · iexact HatvL
  isplitl [HR]; · iexact HR
  isplitl [HL]; · iexact HL
  isplitl [HatsR_pay1]; · iexists _; iexact HatsR_pay1
  isplitl [HatsL_pay1]; · iexists _; iexact HatsL_pay1
  isplitl [Hx]; · iexact Hx
  isplitl [Hw]; · iexact Hw
  iexact Hz

end Cert.RingMlp

end
-- ==== Proof.Hop2.lean ====
/-
# The third hop of the reduce-scatter, which finishes the pieces
-/
module

public import proofs.«01_k».proof.Proof.Tables

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (v : Vals F)

attribute [local sl_rounds high] pay_vR1n_2 pay_vL1p_2 pay_vR0n_2 pay_vL0p_2
attribute [local sl_rounds] pay_barT_0 pay_barT_1 pay_barT_2 pay_barF_0 pay_barF_1 pay_barF_2 pay_sR0_0 pay_sR0_1 pay_sR0_2 pay_sR1_0 pay_sR1_1 pay_sR1_2 pay_sL0_0 pay_sL0_1 pay_sL0_2 pay_sL1_0 pay_sL1_1 pay_sL1_2 pay_vR0_0 pay_vR0_1 pay_vR0_2 pay_vR1_0 pay_vR1_1 pay_vR1_2 pay_vL0_0 pay_vL0_1 pay_vL0_2 pay_vL1_0 pay_vL1_1 pay_vL1_2 any_np any_pn any_outR_np lnd_outR_np any_outR_pn lnd_outR_pn any_outL_np lnd_outL_np any_outL_pn lnd_outL_pn dut_bar0 expect_bar0 duties_sR0_0 expect_sR0_0 duties_sR1_0 expect_sR1_0 duties_vR0_0 expect_vR0_0 duties_vR1_0 expect_vR1_0 duties_sL0_0 expect_sL0_0 duties_sL1_0 expect_sL1_0 duties_vL0_0 expect_vL0_0 duties_vL1_0 expect_vL1_0 dut_bar1 expect_bar1 duties_sR0_1 expect_sR0_1 duties_sR1_1 expect_sR1_1 duties_vR0_1 expect_vR0_1 duties_vR1_1 expect_vR1_1 duties_sL0_1 expect_sL0_1 duties_sL1_1 expect_sL1_1 duties_vL0_1 expect_vL0_1 duties_vL1_1 expect_vL1_1 dut_bar2 expect_bar2 duties_sR0_2 expect_sR0_2 duties_sR1_2 expect_sR1_2 duties_vR0_2 expect_vR0_2 duties_vR1_2 expect_vR1_2 duties_sL0_2 expect_sL0_2 duties_sL1_2 expect_sL1_2 duties_vL0_2 expect_vL0_2 duties_vL1_2 expect_vL1_2 sep_eq amount_bar amount_dma nxt_prv prv_nxt

/-- A finished piece stored into its region of the result. -/
theorem region_store {off off' : Fin 2 → ℕ} (e : off = off') (inb : ∀ a, off a + S192x1536.size a ≤ S1536x1536.size a)
    (inb' : ∀ a, off' a + S192x1536.size a ≤ S1536x1536.size a) (c : Dev nD) (g) (w : S192x1536.Idx → Elt F .bf16) (Z : S192x1536.Idx → Elt F .bf16) (h : w = Z) :
    ((oM.slice (Rect.unit (s := S1536x1536) off S192x1536.size inb) (fun _ => rfl)).view.loc (c : Thread nD τ)
        ↦[(oM.slice (Rect.unit (s := S1536x1536) off S192x1536.size inb) (fun _ => rfl)).view.set]{fullShare}
          (oM.access (Rect.unit (s := S1536x1536) off S192x1536.size inb)).write (Elt F) g w Finset.univ : sProp 𝕄)
      ⊢ (oM.slice (Rect.unit (s := S1536x1536) off' S192x1536.size inb') (fun _ => rfl)).view.loc (c : Thread nD τ)
        ↦[(oM.slice (Rect.unit (s := S1536x1536) off' S192x1536.size inb') (fun _ => rfl)).view.set]{fullShare}
          (oM.slice (Rect.unit (s := S1536x1536) off' S192x1536.size inb') (fun _ => rfl)).view.rep Z := by
  subst e h
  exact pointsTo_rep_of_read (c : Thread nD τ) _ _ fullShare w (Memref.read_slice_write (Val := Elt F) oM inb rfl inb g w)

/-- The third hop, its handshake included: the finished pieces go into the result. -/
theorem hop2 (K : Dev nD × Fin 9 → ℕ) (c : Dev nD) (W : Waits sig ℕ) (X : Dev nD → S1536x1536.Idx → Elt F .f32) (W1 : Dev nD → S1536x3072.Idx → Elt F .bf16) (W2 : Dev nD → S3072x1536.Idx → Elt F .bf16)
    (hG : Good v X W1 W2) (v2 v14 v25 : BitVec 32) (rest : Prog (TpuEff nD τ sig (Elt F) Λ₀ .tc) PUnit) (Q : PUnit → sProp 𝕄) :
    iprop(ctx v K c
        ∗ reached ER (barCell (nxt c)) 2
        ∗ reached ER (barCell (prv c)) 2
        ∗ reached ER (sR0 c) 1
        ∗ reached ER (sL0 c) 1
        ∗ reached ER (vR0 c) 1
        ∗ reached ER (vR1 c) 1
        ∗ reached ER (vL0 c) 1
        ∗ reached ER (vL1 c) 1
        ∗ dutyTok ER (barCell (prv c)) 2 true
        ∗ dutyTok ER (barCell (nxt c)) 2 false
        ∗ dutyTok ER (sR0 c) 1 false
        ∗ dutyTok ER (sL0 c) 1 false
        ∗ dutyTok ER (vR1 (nxt c)) 1 false
        ∗ dutyTok ER (vL1 (prv c)) 1 false
        ∗ atPos ER (barCell c) 2 ∅ 0
        ∗ cred (tallyAt (barCell c) 2 2)
        ∗ atPos ER (sR0 c) 1 ∅ 0
        ∗ atPos ER (sL0 c) 1 ∅ 0
        ∗ atPos ER (vR1 c) 1 ∅ 0
        ∗ cred (tallyAt (vR1 c) 1 N)
        ∗ atPos ER (vL1 c) 1 ∅ 0
        ∗ cred (tallyAt (vL1 c) 1 N)
        ∗ any_ r1S c
        ∗ any_ l1S c
        ∗ at_ r0S c (v.sR 2 c)
        ∗ at_ l0S c (v.sL 2 c)
        ∗ any_ (outR (nxt c)) c
        ∗ any_ (outL (prv c)) c
        ∗ at_ xM c (X c)
        ∗ at_ wM c (W1 c)
        ∗ at_ zM c (W2 c)
        ∗ owes c (O2 c) W
        ∗ (iprop((∃ W', owes c (O3 c) W')
            ∗ reached ER (vR0 (nxt c)) 1
            ∗ reached ER (vL0 (prv c)) 1
            ∗ reached ER (sR0 c) 2
            ∗ reached ER (sL0 c) 2
            ∗ reached ER (vR1 c) 2
            ∗ reached ER (vL1 c) 2
            ∗ atPos ER (barCell c) 3 ∅ 0
            ∗ atPos ER (sR0 c) 2 ∅ 0
            ∗ atPos ER (sL0 c) 2 ∅ 0
            ∗ atPos ER (vR1 c) 2 ∅ 0
            ∗ atPos ER (vL1 c) 2 ∅ 0
            ∗ at_ (outR (nxt c)) c (v.gR (nxt c))
            ∗ at_ (outL (prv c)) c (v.gL (prv c))
            ∗ any_ r1S c
            ∗ any_ l1S c
            ∗ any_ r0S c
            ∗ any_ l0S c
            ∗ at_ xM c (X c)
            ∗ at_ wM c (W1 c)
            ∗ at_ zM c (W2 c))
          -∗ wp frame (wpE (defs₀ (F := F)) 𝒱₀ (c : Thread nD τ) none) Set.univ rest Q))
      ⊢ wp frame (wpE (defs₀ (F := F)) 𝒱₀ (c : Thread nD τ) none) Set.univ
          (do
            let ⟨v609, c4⟩ ← k0_part21 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v14 v25 (SemArray.scalar (sig.barrier 0 rfl))
            let ⟨v619, v631, v644, v645⟩ ← k0_part22 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v609 c4
            let v657 ← k0_part23 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v25 v645
            let v698 ← k0_part24 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v14 v619 v631 v644 v657
            k0_part25 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v25 v698
            rest) Q := by
  have hd1 := dev9_eq c; have hd2 := dev10_eq c; have hd3 := dev11_eq c; have hd4 := dev12_eq c
  have hm0 := (Above.mayWait (F := F) (c := c) (sm := .reg barS) (r := 2) (by decide) (above2' c))
  have hm1 := (Above.mayWait (F := F) (c := c) (sm := .dma ⟨6, by decide⟩) (r := 0) (by decide) ((above3 c).mono (Nat.zero_le _)))
  have hm2 := (Above.mayWait (F := F) (c := c) (sm := .dma ⟨9, by decide⟩) (r := 1) (by decide) (Above.mono (n' := 6) (by decide) (above3 c)))
  have hm3 := (Above.mayWait (F := F) (c := c) (sm := .dma ⟨10, by decide⟩) (r := 0) (by decide) ((above3 c).mono (Nat.zero_le _)))
  have hm4 := (Above.mayWait (F := F) (c := c) (sm := .dma ⟨13, by decide⟩) (r := 1) (by decide) (Above.mono (n' := 6) (by decide) (above3 c)))
  simp only [k0_part21_eq_skeleton, k0_part22_eq_skeleton, k0_part23_eq_skeleton, k0_part24_eq_skeleton, k0_part25_eq_skeleton]
  have e1 := any_slice (F := F) c (off4_eq c).symm (h := offR_inb (nxt c)) (h' := k0_off4_inb c)
  have e2 := any_slice (F := F) c (off3_2 c).symm (h := offL_inb (prv c)) (h' := k0_off3_inb c 2)
  rw [e1, e2]
  unfold ctx any_ at_ held
  iintro ⟨⟨#HIb, #HIsR0, #HIsR1, #HIvR0, #HIvR1, #HIsL0, #HIsL1, #HIvL0, #HIvL1, #HIbn, #HInR0, #HInR1, #HIbp, #HIpL0, #HIpL1, #Hlev⟩, #Hr1, #Hr2, #Hr3, #Hr4, #Hr5, #Hr6, #Hr7, #Hr8, Ht1, Ht2, Ht3, Ht4, Ht5, Ht6, Hat, Hc, HatsR, HatsL, HatvR, HcR, HatvL, HcL, ⟨%fHf1, Hf1⟩, ⟨%fHf2, Hf2⟩, Hs, Hl, ⟨%fHo, Ho⟩, ⟨%fHq, Hq⟩, Hx, Hw, Hz, HO, HK⟩
  have hO : O2 c = O3 c + dR vR1 1 c + dL vL1 1 c + bP 2 c + bN 2 c := rfl
  rw [hO]
  sl_exec
  icases Hat_pay1 with ⟨⟨%g1, Hg1⟩, #Hb1, #Hb1'⟩
  ihave #Hb2 := Hat_pay3
  sl_exec
  unfold hop2.sl.Ho_w1 hop2.sl.Hq_w2
  ihave HR := (region_store (off4_eq c) (k0_off4_inb c) (offR_inb (nxt c)) c _ _ (v.gR (nxt c)) (by
    unfold hop2.sl.r hop2.sl.v686; rw [slot_load, part_of k0_pay59 rfl (X c) (W1 c) (W2 c) _ (off2_2 c) (offR_inb _), hG.r3 c]; rfl)) $$ Ho
  ihave HL := (region_store (off3_2 c) (k0_off3_inb c 2) (offL_inb (prv c)) c _ _ (v.gL (prv c)) (by
    unfold hop2.sl.r_2 hop2.sl.r_1 hop2.sl.v690; rw [slot_load, part_of k0_pay60 rfl (X c) (W1 c) (W2 c) _ (off3_2 c) (offL_inb _), hG.l3 c]; rfl)) $$ Hq
  iapply HK
  isplitl [HO]; · iexists _; iexact HO
  isplitl []; · iexact Hb1
  isplitl []; · iexact Hb2
  isplitl [HatsR_reached]; · iexact HatsR_reached
  isplitl [HatsL_reached]; · iexact HatsL_reached
  isplitl [HatvR_reached]; · iexact HatvR_reached
  isplitl [HatvL_reached]; · iexact HatvL_reached
  isplitl [Hat]; · iexact Hat
  isplitl [HatsR]; · iexact HatsR
  isplitl [HatsL]; · iexact HatsL
  isplitl [HatvR]; · iexact HatvR
  isplitl [HatvL]; · iexact HatvL
  isplitl [HR]; · iexact HR
  isplitl [HL]; · iexact HL
  isplitl [HatvR_pay1]; · iexists _; iexact HatvR_pay1
  isplitl [HatvL_pay1]; · iexists _; iexact HatvL_pay1
  isplitl [HatsR_pay1]; · iexists _; iexact HatsR_pay1
  isplitl [HatsL_pay1]; · iexists _; iexact HatsL_pay1
  isplitl [Hx]; · iexact Hx
  isplitl [Hw]; · iexact Hw
  iexact Hz

end Cert.RingMlp

end
-- ==== Proof.Gather.lean ====
/-
# The three hops of the all-gather
-/
module

public import proofs.«01_k».proof.Proof.Tables

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (v : Vals F)

attribute [local sl_rounds high] pay_vR1n_2 pay_vL1p_2 pay_vR0n_2 pay_vL0p_2
attribute [local sl_rounds] pay_barT_0 pay_barT_1 pay_barT_2 pay_barF_0 pay_barF_1 pay_barF_2 pay_sR0_0 pay_sR0_1 pay_sR0_2 pay_sR1_0 pay_sR1_1 pay_sR1_2 pay_sL0_0 pay_sL0_1 pay_sL0_2 pay_sL1_0 pay_sL1_1 pay_sL1_2 pay_vR0_0 pay_vR0_1 pay_vR0_2 pay_vR1_0 pay_vR1_1 pay_vR1_2 pay_vL0_0 pay_vL0_1 pay_vL0_2 pay_vL1_0 pay_vL1_1 pay_vL1_2 any_np any_pn any_outR_np lnd_outR_np any_outR_pn lnd_outR_pn any_outL_np lnd_outL_np any_outL_pn lnd_outL_pn dut_bar0 expect_bar0 duties_sR0_0 expect_sR0_0 duties_sR1_0 expect_sR1_0 duties_vR0_0 expect_vR0_0 duties_vR1_0 expect_vR1_0 duties_sL0_0 expect_sL0_0 duties_sL1_0 expect_sL1_0 duties_vL0_0 expect_vL0_0 duties_vL1_0 expect_vL1_0 dut_bar1 expect_bar1 duties_sR0_1 expect_sR0_1 duties_sR1_1 expect_sR1_1 duties_vR0_1 expect_vR0_1 duties_vR1_1 expect_vR1_1 duties_sL0_1 expect_sL0_1 duties_sL1_1 expect_sL1_1 duties_vL0_1 expect_vL0_1 duties_vL1_1 expect_vL1_1 dut_bar2 expect_bar2 duties_sR0_2 expect_sR0_2 duties_sR1_2 expect_sR1_2 duties_vR0_2 expect_vR0_2 duties_vR1_2 expect_vR1_2 duties_sL0_2 expect_sL0_2 duties_sL1_2 expect_sL1_2 duties_vL0_2 expect_vL0_2 duties_vL1_2 expect_vL1_2 sep_eq amount_bar amount_dma nxt_prv prv_nxt

/-- What a landing wrote, as the region's named contents. -/
theorem region_landed (M : Memref sig .tc .vmem S192x1536 .bf16) (c : Dev nD) (g) (x : S192x1536.Idx → Elt F .bf16) :
    (M.view.loc (c : Thread nD τ) ↦[M.view.set]{fullShare} M.view.write (Elt F) g (M.view.read (Elt F) (M.view.rep x)) Finset.univ : sProp 𝕄)
      ⊢ M.view.loc (c : Thread nD τ) ↦[M.view.set]{fullShare} M.view.rep x :=
  pointsTo_rep_of_read (c : Thread nD τ) M _ fullShare x (by rw [View.read_write_univ, View.read_rep])

/-- The first of the three hops that hand the finished pieces on. -/
theorem hop3 (K : Dev nD × Fin 9 → ℕ) (c : Dev nD) (W : Waits sig ℕ) (X : Dev nD → S1536x1536.Idx → Elt F .f32) (W1 : Dev nD → S1536x3072.Idx → Elt F .bf16) (W2 : Dev nD → S3072x1536.Idx → Elt F .bf16)
    (hG : Good v X W1 W2) (v2 v14 v25 : BitVec 32) (rest : BitVec 32 → Prog (TpuEff nD τ sig (Elt F) Λ₀ .tc) PUnit) (Q : PUnit → sProp 𝕄) :
    iprop(ctx v K c
        ∗ reached ER (sR1 c) 1
        ∗ reached ER (sL1 c) 1
        ∗ reached ER (vR0 (nxt c)) 1
        ∗ reached ER (vL0 (prv c)) 1
        ∗ reached ER (vL1 c) 2
        ∗ reached ER (vR1 c) 2
        ∗ dutyTok ER (sR1 c) 1 false
        ∗ dutyTok ER (sL1 c) 1 false
        ∗ dutyTok ER (vR0 (nxt c)) 1 false
        ∗ dutyTok ER (vL0 (prv c)) 1 false
        ∗ atPos ER (sR1 c) 1 ∅ 0
        ∗ atPos ER (sL1 c) 1 ∅ 0
        ∗ atPos ER (vR0 c) 1 ∅ 0
        ∗ cred (tallyAt (vR0 c) 1 N)
        ∗ atPos ER (vL0 c) 1 ∅ 0
        ∗ cred (tallyAt (vL0 c) 1 N)
        ∗ at_ (outR (nxt c)) c (v.gR (nxt c))
        ∗ at_ (outL (prv c)) c (v.gL (prv c))
        ∗ any_ (outR (nxt c)) (nxt c)
        ∗ any_ (outL (prv c)) (prv c)
        ∗ owes c (O3 c) W
        ∗ (∀ e1, iprop((∃ W', owes c (O4 c) W')
            ∗ reached ER (vL1 (prv c)) 2
            ∗ reached ER (vR1 (nxt c)) 2
            ∗ reached ER (sR1 c) 2
            ∗ reached ER (sL1 c) 2
            ∗ reached ER (vR0 c) 2
            ∗ reached ER (vL0 c) 2
            ∗ atPos ER (sR1 c) 2 ∅ 0
            ∗ atPos ER (sL1 c) 2 ∅ 0
            ∗ atPos ER (vR0 c) 2 ∅ 0
            ∗ atPos ER (vL0 c) 2 ∅ 0
            ∗ at_ (outR (nxt c)) c (v.gR (nxt c))
            ∗ at_ (outL (prv c)) c (v.gL (prv c))
            ∗ at_ (outR (c)) c (v.gR (c))
            ∗ at_ (outL (c)) c (v.gL (c)))
          -∗ wp frame (wpE (defs₀ (F := F)) 𝒱₀ (c : Thread nD τ) none) Set.univ (rest e1) Q))
      ⊢ wp frame (wpE (defs₀ (F := F)) 𝒱₀ (c : Thread nD τ) none) Set.univ
          (do
            k0_part26 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v14 v25
            let e1 ← k0_part27 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2
            rest e1) Q := by
  have hd1 := dev13_eq c; have hd2 := dev14_eq c
  have hm1 := (Above.mayWait (F := F) (c := c) (sm := .dma ⟨7, by decide⟩) (r := 0) (by decide) ((above4 c).mono (Nat.zero_le _)))
  have hm2 := (Above.mayWait (F := F) (c := c) (sm := .dma ⟨8, by decide⟩) (r := 1) (by decide) (Above.mono (n' := 8) (by decide) (above4 c)))
  have hm3 := (Above.mayWait (F := F) (c := c) (sm := .dma ⟨11, by decide⟩) (r := 0) (by decide) ((above4 c).mono (Nat.zero_le _)))
  have hm4 := (Above.mayWait (F := F) (c := c) (sm := .dma ⟨12, by decide⟩) (r := 1) (by decide) (Above.mono (n' := 8) (by decide) (above4 c)))
  simp only [k0_part26_eq_skeleton, k0_part27_eq_skeleton]
  have hO : O3 c = O4 c + dR vR0 1 c + dL vL0 1 c := rfl
  rw [hO]
  unfold ctx any_ at_ held
  iintro ⟨⟨#HIb, #HIsR0, #HIsR1, #HIvR0, #HIvR1, #HIsL0, #HIsL1, #HIvL0, #HIvL1, #HIbn, #HInR0, #HInR1, #HIbp, #HIpL0, #HIpL1, #Hlev⟩, #Hr1, #Hr2, #Hr3, #Hr4, #Hr5, #Hr6, Ht3, Ht4, Ht5, Ht6, HatsR, HatsL, HatvR, HcR, HatvL, HcL, Hs, Hl, ⟨%fHf1, Hf1⟩, ⟨%fHf2, Hf2⟩, HO, HK⟩
  sl_exec
  ihave HR := (region_landed (outR (c)) c _ (v.gR (c))) $$ HatvR_pay1
  ihave HL := (region_landed (outL (c)) c _ (v.gL (c))) $$ HatvL_pay1
  iapply HK
  isplitl [HO]; · iexists _; iexact HO
  isplitl [HatvR_pay2]; · iexact HatvR_pay2
  isplitl [HatvL_pay2]; · iexact HatvL_pay2
  isplitl [HatsR_reached]; · iexact HatsR_reached
  isplitl [HatsL_reached]; · iexact HatsL_reached
  isplitl [HatvR_reached]; · iexact HatvR_reached
  isplitl [HatvL_reached]; · iexact HatvL_reached
  isplitl [HatsR]; · iexact HatsR
  isplitl [HatsL]; · iexact HatsL
  isplitl [HatvR]; · iexact HatvR
  isplitl [HatvL]; · iexact HatvL
  isplitl [HatsR_pay1]; · iexact HatsR_pay1
  isplitl [HatsL_pay1]; · iexact HatsL_pay1
  isplitl [HR]; · iexact HR
  iexact HL

/-- The second of them. -/
theorem hop4 (K : Dev nD × Fin 9 → ℕ) (c : Dev nD) (W : Waits sig ℕ) (X : Dev nD → S1536x1536.Idx → Elt F .f32) (W1 : Dev nD → S1536x3072.Idx → Elt F .bf16) (W2 : Dev nD → S3072x1536.Idx → Elt F .bf16)
    (hG : Good v X W1 W2) (v2 v14 v25 e : BitVec 32) (rest : BitVec 32 → BitVec 32 → Prog (TpuEff nD τ sig (Elt F) Λ₀ .tc) PUnit) (Q : PUnit → sProp 𝕄) :
    iprop(ctx v K c
        ∗ reached ER (sR0 c) 2
        ∗ reached ER (sL0 c) 2
        ∗ reached ER (vR1 (nxt c)) 2
        ∗ reached ER (vL1 (prv c)) 2
        ∗ reached ER (vL0 c) 2
        ∗ reached ER (vR0 c) 2
        ∗ dutyTok ER (sR0 c) 2 false
        ∗ dutyTok ER (sL0 c) 2 false
        ∗ dutyTok ER (vR1 (nxt c)) 2 false
        ∗ dutyTok ER (vL1 (prv c)) 2 false
        ∗ atPos ER (sR0 c) 2 ∅ 0
        ∗ atPos ER (sL0 c) 2 ∅ 0
        ∗ atPos ER (vR1 c) 2 ∅ 0
        ∗ cred (tallyAt (vR1 c) 2 N)
        ∗ atPos ER (vL1 c) 2 ∅ 0
        ∗ cred (tallyAt (vL1 c) 2 N)
        ∗ at_ (outR (c)) c (v.gR (c))
        ∗ at_ (outL (c)) c (v.gL (c))
        ∗ any_ (outR (c)) (nxt c)
        ∗ any_ (outL (c)) (prv c)
        ∗ owes c (O4 c) W
        ∗ (∀ v858 c384, iprop((∃ W', owes c (O5 c) W')
            ∗ reached ER (vL0 (prv c)) 2
            ∗ reached ER (vR0 (nxt c)) 2
            ∗ reached ER (sR0 c) 3
            ∗ reached ER (sL0 c) 3
            ∗ reached ER (vR1 c) 3
            ∗ reached ER (vL1 c) 3
            ∗ atPos ER (sR0 c) 3 ∅ 0
            ∗ atPos ER (sL0 c) 3 ∅ 0
            ∗ atPos ER (vR1 c) 3 ∅ 0
            ∗ atPos ER (vL1 c) 3 ∅ 0
            ∗ at_ (outR (c)) c (v.gR (c))
            ∗ at_ (outL (c)) c (v.gL (c))
            ∗ at_ (outR (prv c)) c (v.gR (prv c))
            ∗ at_ (outL (nxt c)) c (v.gL (nxt c)))
          -∗ wp frame (wpE (defs₀ (F := F)) 𝒱₀ (c : Thread nD τ) none) Set.univ (rest v858 c384) Q))
      ⊢ wp frame (wpE (defs₀ (F := F)) 𝒱₀ (c : Thread nD τ) none) Set.univ
          (do
            k0_part28 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v14 v25 e
            let ⟨v858, c384⟩ ← k0_part29 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v14
            rest v858 c384) Q := by
  have hd1 := dev15_eq c; have hd2 := dev16_eq c
  have hm1 := (Above.mayWait (F := F) (c := c) (sm := .dma ⟨6, by decide⟩) (r := 0) (by decide) ((above5 c).mono (Nat.zero_le _)))
  have hm2 := (Above.mayWait (F := F) (c := c) (sm := .dma ⟨9, by decide⟩) (r := 2) (by decide) (Above.mono (n' := 10) (by decide) (above5 c)))
  have hm3 := (Above.mayWait (F := F) (c := c) (sm := .dma ⟨10, by decide⟩) (r := 0) (by decide) ((above5 c).mono (Nat.zero_le _)))
  have hm4 := (Above.mayWait (F := F) (c := c) (sm := .dma ⟨13, by decide⟩) (r := 2) (by decide) (Above.mono (n' := 10) (by decide) (above5 c)))
  simp only [k0_part28_eq_skeleton, k0_part29_eq_skeleton]
  have hO : O4 c = O5 c + dR vR1 2 c + dL vL1 2 c := rfl
  rw [hO]
  unfold ctx any_ at_ held
  iintro ⟨⟨#HIb, #HIsR0, #HIsR1, #HIvR0, #HIvR1, #HIsL0, #HIsL1, #HIvL0, #HIvL1, #HIbn, #HInR0, #HInR1, #HIbp, #HIpL0, #HIpL1, #Hlev⟩, #Hr1, #Hr2, #Hr3, #Hr4, #Hr5, #Hr6, Ht3, Ht4, Ht5, Ht6, HatsR, HatsL, HatvR, HcR, HatvL, HcL, Hs, Hl, ⟨%fHf1, Hf1⟩, ⟨%fHf2, Hf2⟩, HO, HK⟩
  sl_exec
  ihave HR := (region_landed (outR (prv c)) c _ (v.gR (prv c))) $$ HatvR_pay1
  ihave HL := (region_landed (outL (nxt c)) c _ (v.gL (nxt c))) $$ HatvL_pay1
  iapply HK
  isplitl [HO]; · iexists _; iexact HO
  isplitl [HatvR_pay2]; · iexact HatvR_pay2
  isplitl [HatvL_pay2]; · iexact HatvL_pay2
  isplitl [HatsR_reached]; · iexact HatsR_reached
  isplitl [HatsL_reached]; · iexact HatsL_reached
  isplitl [HatvR_reached]; · iexact HatvR_reached
  isplitl [HatvL_reached]; · iexact HatvL_reached
  isplitl [HatsR]; · iexact HatsR
  isplitl [HatsL]; · iexact HatsL
  isplitl [HatvR]; · iexact HatvR
  isplitl [HatvL]; · iexact HatvL
  isplitl [HatsR_pay1]; · iexact HatsR_pay1
  isplitl [HatsL_pay1]; · iexact HatsL_pay1
  isplitl [HR]; · iexact HR
  iexact HL

/-- The last of them. -/
theorem hop5 (K : Dev nD × Fin 9 → ℕ) (c : Dev nD) (W : Waits sig ℕ) (X : Dev nD → S1536x1536.Idx → Elt F .f32) (W1 : Dev nD → S1536x3072.Idx → Elt F .bf16) (W2 : Dev nD → S3072x1536.Idx → Elt F .bf16)
    (hG : Good v X W1 W2) (v14 v25 v858 e : BitVec 32) (rest : Prog (TpuEff nD τ sig (Elt F) Λ₀ .tc) PUnit) (Q : PUnit → sProp 𝕄) :
    iprop(ctx v K c
        ∗ reached ER (sR1 c) 2
        ∗ reached ER (sL1 c) 2
        ∗ reached ER (vR0 (nxt c)) 2
        ∗ reached ER (vL0 (prv c)) 2
        ∗ dutyTok ER (sR1 c) 2 false
        ∗ dutyTok ER (sL1 c) 2 false
        ∗ dutyTok ER (vR0 (nxt c)) 2 false
        ∗ dutyTok ER (vL0 (prv c)) 2 false
        ∗ atPos ER (sR1 c) 2 ∅ 0
        ∗ atPos ER (sL1 c) 2 ∅ 0
        ∗ atPos ER (vR0 c) 2 ∅ 0
        ∗ cred (tallyAt (vR0 c) 2 N)
        ∗ atPos ER (vL0 c) 2 ∅ 0
        ∗ cred (tallyAt (vL0 c) 2 N)
        ∗ at_ (outR (prv c)) c (v.gR (prv c))
        ∗ at_ (outL (nxt c)) c (v.gL (nxt c))
        ∗ any_ (outR (prv c)) (nxt c)
        ∗ any_ (outL (nxt c)) (prv c)
        ∗ owes c (O5 c) W
        ∗ (iprop((∃ W', owes c (0) W')
            ∗ reached ER (sR1 c) 3
            ∗ reached ER (sL1 c) 3
            ∗ reached ER (vR0 c) 3
            ∗ reached ER (vL0 c) 3
            ∗ atPos ER (sR1 c) 3 ∅ 0
            ∗ atPos ER (sL1 c) 3 ∅ 0
            ∗ atPos ER (vR0 c) 3 ∅ 0
            ∗ atPos ER (vL0 c) 3 ∅ 0
            ∗ at_ (outR (prv c)) c (v.gR (prv c))
            ∗ at_ (outL (nxt c)) c (v.gL (nxt c))
            ∗ at_ (outR (prv (prv c))) c (v.gR (prv (prv c)))
            ∗ at_ (outL (nxt (nxt c))) c (v.gL (nxt (nxt c))))
          -∗ wp frame (wpE (defs₀ (F := F)) 𝒱₀ (c : Thread nD τ) none) Set.univ rest Q))
      ⊢ wp frame (wpE (defs₀ (F := F)) 𝒱₀ (c : Thread nD τ) none) Set.univ
          (do
            k0_part30 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v14 v25 v858 e
            Prog.lift (.waitDma2 (((cc0_scratch10.slice (Rect.unit (s := S2) ![1] S1.size inb_S2_S1_1) : DmaSems sig S1).squeeze S_ squeezes_S1_S_ : DmaSems sig S_)).sem (oM.slice (Rect.unit (s := S1536x1536) (k0_off6 c 2#32) S192x1536.size (k0_off6_inb c 2)) (fun _ => rfl)) (oM.slice (Rect.unit (s := S1536x1536) (k0_off6 c 2#32) S192x1536.size (k0_off6_inb c 2)) (fun _ => rfl)) ((Memref.isWhole_whole _).wordExact_slice rfl _ (k0_off6_wordsbf16 c 2)) ((Memref.isWhole_whole _).wordExact_slice rfl _ (k0_off6_wordsbf16 c 2)))
            Prog.lift (.waitDma2 (((cc0_scratch11.slice (Rect.unit (s := S2) ![0] S1.size inb_S2_S1_0) : DmaSems sig S1).squeeze S_ squeezes_S1_S_ : DmaSems sig S_)).sem (oM.slice (Rect.unit (s := S1536x1536) (k0_off6 c 2#32) S192x1536.size (k0_off6_inb c 2)) (fun _ => rfl)) (oM.slice (Rect.unit (s := S1536x1536) (k0_off6 c 2#32) S192x1536.size (k0_off6_inb c 2)) (fun _ => rfl)) ((Memref.isWhole_whole _).wordExact_slice rfl _ (k0_off6_wordsbf16 c 2)) ((Memref.isWhole_whole _).wordExact_slice rfl _ (k0_off6_wordsbf16 c 2)))
            rest) Q := by
  have hd1 := dev17_eq c; have hd2 := dev18_eq c
  have hm1 := (Above.mayWait (F := F) (c := c) (sm := .dma ⟨7, by decide⟩) (r := 0) (by decide) (Above.zero _))
  have hm2 := (Above.mayWait (F := F) (c := c) (sm := .dma ⟨8, by decide⟩) (r := 2) (by decide) (Above.zero _))
  have hm3 := (Above.mayWait (F := F) (c := c) (sm := .dma ⟨11, by decide⟩) (r := 0) (by decide) (Above.zero _))
  have hm4 := (Above.mayWait (F := F) (c := c) (sm := .dma ⟨12, by decide⟩) (r := 2) (by decide) (Above.zero _))
  simp only [k0_part30_eq_skeleton]
  have hO : O5 c = 0 + dR vR0 2 c + dL vL0 2 c := (zero_add (dR vR0 2 c + dL vL0 2 c)).symm.trans (add_assoc 0 (dR vR0 2 c) (dL vL0 2 c)).symm
  rw [hO]
  unfold ctx any_ at_ held
  iintro ⟨⟨#HIb, #HIsR0, #HIsR1, #HIvR0, #HIvR1, #HIsL0, #HIsL1, #HIvL0, #HIvL1, #HIbn, #HInR0, #HInR1, #HIbp, #HIpL0, #HIpL1, #Hlev⟩, #Hr1, #Hr2, #Hr3, #Hr4, Ht3, Ht4, Ht5, Ht6, HatsR, HatsL, HatvR, HcR, HatvL, HcL, Hs, Hl, ⟨%fHf1, Hf1⟩, ⟨%fHf2, Hf2⟩, HO, HK⟩
  sl_exec
  ihave HR := (region_landed (outR (prv (prv c))) c _ (v.gR (prv (prv c)))) $$ HatvR_pay1
  ihave HL := (region_landed (outL (nxt (nxt c))) c _ (v.gL (nxt (nxt c)))) $$ HatvL_pay1
  iapply HK
  isplitl [HO]; · iexists _; iexact HO
  isplitl [HatsR_reached]; · iexact HatsR_reached
  isplitl [HatsL_reached]; · iexact HatsL_reached
  isplitl [HatvR_reached]; · iexact HatvR_reached
  isplitl [HatvL_reached]; · iexact HatvL_reached
  isplitl [HatsR]; · iexact HatsR
  isplitl [HatsL]; · iexact HatsL
  isplitl [HatvR]; · iexact HatvR
  isplitl [HatvL]; · iexact HatvL
  isplitl [HatsR_pay1]; · iexact HatsR_pay1
  isplitl [HatsL_pay1]; · iexact HatsL_pay1
  isplitl [HR]; · iexact HR
  iexact HL

end Cert.RingMlp

end
-- ==== Proof.Body.lean ====
/-
# A device's whole body, from its entry to its last wait
-/
module

public import proofs.«01_k».proof.Proof.Entry
public import proofs.«01_k».proof.Proof.Hop0
public import proofs.«01_k».proof.Proof.Hop1
public import proofs.«01_k».proof.Proof.Hop2
public import proofs.«01_k».proof.Proof.Gather

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (v : Vals F)

/-- The rounds a device must know of before it starts: round 0 on every cell that it pays. -/
def reach (c : Dev nD) : sProp 𝕄 :=
  iprop(reached ER (barCell (nxt c)) 0
    ∗ reached ER (barCell (prv c)) 0
    ∗ reached ER (sR0 c) 0
    ∗ reached ER (sR1 c) 0
    ∗ reached ER (sL0 c) 0
    ∗ reached ER (sL1 c) 0
    ∗ reached ER (vR0 (nxt c)) 0
    ∗ reached ER (vR1 (nxt c)) 0
    ∗ reached ER (vL0 (prv c)) 0
    ∗ reached ER (vL1 (prv c)) 0)

/-- Its positions on its own cells at the start. -/
def poss (c : Dev nD) : sProp 𝕄 :=
  iprop(atPos ER (barCell c) 0 ∅ 0
    ∗ atPos ER (sR0 c) 0 ∅ 0
    ∗ atPos ER (sR1 c) 0 ∅ 0
    ∗ atPos ER (vR0 c) 0 ∅ 0
    ∗ atPos ER (vR1 c) 0 ∅ 0
    ∗ atPos ER (sL0 c) 0 ∅ 0
    ∗ atPos ER (sL1 c) 0 ∅ 0
    ∗ atPos ER (vL0 c) 0 ∅ 0
    ∗ atPos ER (vL1 c) 0 ∅ 0)

/-- The duties that it pays, in all three rounds. -/
def payToks (c : Dev nD) : sProp 𝕄 :=
  iprop(dutyTok ER (barCell (prv c)) 0 true
    ∗ dutyTok ER (barCell (nxt c)) 0 false
    ∗ dutyTok ER (sR0 c) 0 false
    ∗ dutyTok ER (sR1 c) 0 false
    ∗ dutyTok ER (sL0 c) 0 false
    ∗ dutyTok ER (sL1 c) 0 false
    ∗ dutyTok ER (vR0 (nxt c)) 0 false
    ∗ dutyTok ER (vR1 (nxt c)) 0 false
    ∗ dutyTok ER (vL0 (prv c)) 0 false
    ∗ dutyTok ER (vL1 (prv c)) 0 false
    ∗ dutyTok ER (barCell (prv c)) 1 true
    ∗ dutyTok ER (barCell (nxt c)) 1 false
    ∗ dutyTok ER (sR0 c) 1 false
    ∗ dutyTok ER (sR1 c) 1 false
    ∗ dutyTok ER (sL0 c) 1 false
    ∗ dutyTok ER (sL1 c) 1 false
    ∗ dutyTok ER (vR0 (nxt c)) 1 false
    ∗ dutyTok ER (vR1 (nxt c)) 1 false
    ∗ dutyTok ER (vL0 (prv c)) 1 false
    ∗ dutyTok ER (vL1 (prv c)) 1 false
    ∗ dutyTok ER (barCell (prv c)) 2 true
    ∗ dutyTok ER (barCell (nxt c)) 2 false
    ∗ dutyTok ER (sR0 c) 2 false
    ∗ dutyTok ER (sR1 c) 2 false
    ∗ dutyTok ER (sL0 c) 2 false
    ∗ dutyTok ER (sL1 c) 2 false
    ∗ dutyTok ER (vR0 (nxt c)) 2 false
    ∗ dutyTok ER (vR1 (nxt c)) 2 false
    ∗ dutyTok ER (vL0 (prv c)) 2 false
    ∗ dutyTok ER (vL1 (prv c)) 2 false)

/-- The credit of what others owe it. -/
def crd (c : Dev nD) : sProp 𝕄 :=
  iprop(cred (tallyAt (barCell c) 0 2)
    ∗ cred (tallyAt (vR0 c) 0 N)
    ∗ cred (tallyAt (vR1 c) 0 N)
    ∗ cred (tallyAt (vL0 c) 0 N)
    ∗ cred (tallyAt (vL1 c) 0 N)
    ∗ cred (tallyAt (barCell c) 1 2)
    ∗ cred (tallyAt (vR0 c) 1 N)
    ∗ cred (tallyAt (vR1 c) 1 N)
    ∗ cred (tallyAt (vL0 c) 1 N)
    ∗ cred (tallyAt (vL1 c) 1 N)
    ∗ cred (tallyAt (barCell c) 2 2)
    ∗ cred (tallyAt (vR0 c) 2 N)
    ∗ cred (tallyAt (vR1 c) 2 N)
    ∗ cred (tallyAt (vL0 c) 2 N)
    ∗ cred (tallyAt (vL1 c) 2 N))

/-- Its result, region by region, at whatever contents. -/
def outs (c : Dev nD) : sProp 𝕄 :=
  iprop(any_ (F := F) (outR c) c
    ∗ any_ (F := F) (outR (nxt c)) c
    ∗ any_ (F := F) (outR (prv c)) c
    ∗ any_ (F := F) (outR (prv (prv c))) c
    ∗ any_ (F := F) (outL c) c
    ∗ any_ (F := F) (outL (nxt c)) c
    ∗ any_ (F := F) (outL (prv c)) c
    ∗ any_ (F := F) (outL (nxt (nxt c))) c)

/-- Its scratch memory, slot by slot, at whatever contents. -/
def slots (c : Dev nD) : sProp 𝕄 :=
  iprop(any_ (F := F) wM c
    ∗ any_ (F := F) zM c
    ∗ any_ (F := F) s10 c
    ∗ any_ (F := F) s11 c
    ∗ any_ (F := F) s20 c
    ∗ any_ (F := F) s21 c
    ∗ any_ (F := F) r0S c
    ∗ any_ (F := F) r1S c
    ∗ any_ (F := F) l0S c
    ∗ any_ (F := F) l1S c)

/-- Its result, region by region, finished. -/
def outsAt (v : Vals F) (c : Dev nD) : sProp 𝕄 :=
  iprop(at_ (outR c) c (v.gR c)
    ∗ at_ (outR (nxt c)) c (v.gR (nxt c))
    ∗ at_ (outR (prv c)) c (v.gR (prv c))
    ∗ at_ (outR (prv (prv c))) c (v.gR (prv (prv c)))
    ∗ at_ (outL c) c (v.gL c)
    ∗ at_ (outL (nxt c)) c (v.gL (nxt c))
    ∗ at_ (outL (prv c)) c (v.gL (prv c))
    ∗ at_ (outL (nxt (nxt c))) c (v.gL (nxt (nxt c))))

/-- The semaphores of its own cells, at zero. -/
def sems (c : Dev nD) : sProp 𝕄 :=
  iprop(semVal (barCell c) 0
    ∗ semVal (sR0 c) 0
    ∗ semVal (sR1 c) 0
    ∗ semVal (vR0 c) 0
    ∗ semVal (vR1 c) 0
    ∗ semVal (sL0 c) 0
    ∗ semVal (sL1 c) 0
    ∗ semVal (vL0 c) 0
    ∗ semVal (vL1 c) 0)

/-! ## The body after its entry, hop by hop -/

def tail5 (c : Dev nD) (v14 v25 v858 e : BitVec 32) : Prog (TpuEff nD τ sig (Elt F) Λ₀ .tc) PUnit := do
  k0_part30 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v14 v25 v858 e
  Prog.lift (.waitDma2 (((cc0_scratch10.slice (Rect.unit (s := S2) ![1] S1.size inb_S2_S1_1) : DmaSems sig S1).squeeze S_ squeezes_S1_S_ : DmaSems sig S_)).sem (oM.slice (Rect.unit (s := S1536x1536) (k0_off6 c 2#32) S192x1536.size (k0_off6_inb c 2)) (fun _ => rfl)) (oM.slice (Rect.unit (s := S1536x1536) (k0_off6 c 2#32) S192x1536.size (k0_off6_inb c 2)) (fun _ => rfl)) ((Memref.isWhole_whole _).wordExact_slice rfl _ (k0_off6_wordsbf16 c 2)) ((Memref.isWhole_whole _).wordExact_slice rfl _ (k0_off6_wordsbf16 c 2)))
  Prog.lift (.waitDma2 (((cc0_scratch11.slice (Rect.unit (s := S2) ![0] S1.size inb_S2_S1_0) : DmaSems sig S1).squeeze S_ squeezes_S1_S_ : DmaSems sig S_)).sem (oM.slice (Rect.unit (s := S1536x1536) (k0_off6 c 2#32) S192x1536.size (k0_off6_inb c 2)) (fun _ => rfl)) (oM.slice (Rect.unit (s := S1536x1536) (k0_off6 c 2#32) S192x1536.size (k0_off6_inb c 2)) (fun _ => rfl)) ((Memref.isWhole_whole _).wordExact_slice rfl _ (k0_off6_wordsbf16 c 2)) ((Memref.isWhole_whole _).wordExact_slice rfl _ (k0_off6_wordsbf16 c 2)))
  pure ⟨⟩
def tail4 (c : Dev nD) (v2 v14 v25 e : BitVec 32) : Prog (TpuEff nD τ sig (Elt F) Λ₀ .tc) PUnit := do
  k0_part28 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v14 v25 e
  let ⟨v858, c384⟩ ← k0_part29 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v14
  tail5 c v14 v25 v858 c384
def tail3 (c : Dev nD) (v2 v14 v25 : BitVec 32) : Prog (TpuEff nD τ sig (Elt F) Λ₀ .tc) PUnit := do
  k0_part26 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v14 v25
  let e ← k0_part27 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2
  tail4 c v2 v14 v25 e
def tail2 (c : Dev nD) (v2 v14 v25 : BitVec 32) (v350 : Sems sig S_) : Prog (TpuEff nD τ sig (Elt F) Λ₀ .tc) PUnit := do
  let ⟨v609, c4⟩ ← k0_part21 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v14 v25 v350
  let ⟨v619, v631, v644, v645⟩ ← k0_part22 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v609 c4
  let v657 ← k0_part23 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v25 v645
  let v698 ← k0_part24 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v14 v619 v631 v644 v657
  k0_part25 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v25 v698
  tail3 c v2 v14 v25
def tail1 (c : Dev nD) (v2 v14 v25 : BitVec 32) (v350 : Sems sig S_) : Prog (TpuEff nD τ sig (Elt F) Λ₀ .tc) PUnit := do
  let ⟨v492, c4, c0⟩ ← k0_part17 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v14 v25 v350
  let ⟨v527, v528, c192⟩ ← k0_part18 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v492 c4 c0
  let v540 ← k0_part19 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v25 v528 c192
  k0_part20 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v14 v527 v540
  tail2 c v2 v14 v25 v350
def tail0 (c : Dev nD) (v2 v14 v25 : BitVec 32) (v350 : Sems sig S_) (e : BitVec 32) : Prog (TpuEff nD τ sig (Elt F) Λ₀ .tc) PUnit := do
  let ⟨v375, c4, v376⟩ ← k0_part13 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v14 v25 v350 e
  let ⟨v410, v412⟩ ← k0_part14 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v2 v375 c4 v376
  let v423 ← k0_part15 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 c v25 v412
  k0_part16 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v14 v410 v423
  tail1 c v2 v14 v25 v350

/-- The entry, then whatever comes after. -/
def headThen (rest : Dev nD → BitVec 32 → BitVec 32 → BitVec 32 → Sems sig S_ → BitVec 32 → Prog (TpuEff nD τ sig (Elt F) Λ₀ .tc) PUnit) : Prog (TpuEff nD τ sig (Elt F) Λ₀ .tc) PUnit := do
  let ⟨d0, v2, v14, v25, v30⟩ ← k0_part1 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11
  let v60 ← k0_part2 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v30
  let v79 ← k0_part3 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v30 v60
  let v117 ← k0_part4 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v30 v79
  let v136 ← k0_part5 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v30 v117
  let v174 ← k0_part6 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v30 v136
  let ⟨v191, v192, v204⟩ ← k0_part7 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v30 v174
  let v230 ← k0_part8 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v191 v192 v204
  let ⟨v249, v261⟩ ← k0_part9 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v191 v230
  let v287 ← k0_part10 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v191 v249 v261
  let ⟨v306, v318⟩ ← k0_part11 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v191 v287
  let ⟨v350, e⟩ ← k0_part12 (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 v191 v306 v318
  rest d0 v2 v14 v25 v350 e

set_option maxRecDepth 65536 in
theorem body_eq : cc0_body (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 = headThen tail0 := rfl

/-- What a device has when its body has run. -/
def bodyEnd (v : Vals F) (c : Dev nD) (X : Dev nD → S1536x1536.Idx → Elt F .f32) (B1 : Buf (Elt F) (a1M.view.loc (c : Thread nD τ))) (B2 : Buf (Elt F) (a2M.view.loc (c : Thread nD τ))) : sProp 𝕄 :=
  iprop((∃ W', owes c 0 W') ∗ sems c ∗ outsAt v c ∗ slots c ∗ at_ xM c (X c) ∗ heldH a1M c B1 ∗ heldH a2M c B2 ∗ quiet c)

theorem hctx (v : Vals F) (K : Dev nD × Fin 9 → ℕ) (c : Dev nD) : ctx v K c
    ⊢ iprop(cellInv ER (Rd v) (K (c, 0)) (barCell c) ∗ cellInv ER (Rd v) (K (c, 1)) (sR0 c) ∗ cellInv ER (Rd v) (K (c, 2)) (sR1 c) ∗ cellInv ER (Rd v) (K (c, 3)) (vR0 c) ∗ cellInv ER (Rd v) (K (c, 4)) (vR1 c) ∗ cellInv ER (Rd v) (K (c, 5)) (sL0 c) ∗ cellInv ER (Rd v) (K (c, 6)) (sL1 c) ∗ cellInv ER (Rd v) (K (c, 7)) (vL0 c) ∗ cellInv ER (Rd v) (K (c, 8)) (vL1 c) ∗ levAts L lv) := by
  unfold ctx
  iintro ⟨#H0, #H1, #H2, #H3, #H4, #H5, #H6, #H7, #H8, -, -, -, -, -, -, #HL⟩
  isplitr; · iexact H0
  isplitr; · iexact H1
  isplitr; · iexact H2
  isplitr; · iexact H3
  isplitr; · iexact H4
  isplitr; · iexact H5
  isplitr; · iexact H6
  isplitr; · iexact H7
  isplitr; · iexact H8
  iexact HL

set_option maxHeartbeats 4000000 in
set_option maxRecDepth 20000 in
/-- The body, from the entry to the last wait: the six hops one after the other, then the nine cells closed. -/
theorem whole (K : Dev nD × Fin 9 → ℕ) (c : Dev nD) (W : Waits sig ℕ) (X : Dev nD → S1536x1536.Idx → Elt F .f32) (W1 : Dev nD → S1536x3072.Idx → Elt F .bf16) (W2 : Dev nD → S3072x1536.Idx → Elt F .bf16)
    (B1 : Buf (Elt F) (a1M.view.loc (c : Thread nD τ))) (B2 : Buf (Elt F) (a2M.view.loc (c : Thread nD τ)))
    (hG : Good v X W1 W2) (hW1 : wV (a1M.view.read (Elt F) B1) = W1 c) (hW2 : zV (a2M.view.read (Elt F) B2) = W2 c)
    (hS0 : seedR (X c) (a1M.view.read (Elt F) B1) (a2M.view.read (Elt F) B2) c = v.sR 0 c) (hS1 : seedL (X c) (a1M.view.read (Elt F) B1) (a2M.view.read (Elt F) B2) c = v.sL 0 c)
    (Q : PUnit → sProp 𝕄) :
    iprop(ctx v K c ∗ reach c ∗ poss c ∗ payToks c ∗ crd c ∗ outs c ∗ slots c ∗ at_ xM c (X c) ∗ heldH a1M c B1 ∗ heldH a2M c B2 ∗ quiet c ∗ owes c (O0 c) W
        ∗ (bodyEnd v c X B1 B2 -∗ Q ⟨⟩))
      ⊢ wp frame (wpE (defs₀ (F := F)) 𝒱₀ (c : Thread nD τ) none) Set.univ (cc0_body (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) Q := by
  unfold reach poss payToks crd outs slots
  iintro ⟨#Hctx, ⟨#H1, #H2, #H3, #H4, #H5, #H6, #H7, #H8, #H9, #H10⟩, ⟨H11, H12, H13, H14, H15, H16, H17, H18, H19⟩, ⟨H20, H21, H22, H23, H24, H25, H26, H27, H28, H29, H30, H31, H32, H33, H34, H35, H36, H37, H38, H39, H40, H41, H42, H43, H44, H45, H46, H47, H48, H49⟩, ⟨H50, H51, H52, H53, H54, H55, H56, H57, H58, H59, H60, H61, H62, H63, H64⟩, ⟨H65, H66, H67, H68, H69, H70, H71, H72⟩, ⟨H73, H74, H75, H76, H77, H78, H79, H80, H81, H82⟩, Hx, Ha1, Ha2, Hq, HO, HK⟩
  ihave Hcs := (hctx v K c) $$ Hctx
  icases Hcs with ⟨#HI0, #HI1, #HI2, #HI3, #HI4, #HI5, #HI6, #HI7, #HI8, #Hlev⟩
  rw [body_eq]
  iapply (show _ ⊢ wp frame (wpE (defs₀ (F := F)) 𝒱₀ (c : Thread nD τ) none) Set.univ (headThen tail0) Q from entry c W (X c) B1 B2 tail0 Q)
  isplitr; · iexact Hlev
  isplitl [Hx]; · iexact Hx
  isplitl [Ha1]; · iexact Ha1
  isplitl [Ha2]; · iexact Ha2
  isplitl [H73]; · iexact H73
  isplitl [H74]; · iexact H74
  isplitl [H75]; · iexact H75
  isplitl [H76]; · iexact H76
  isplitl [H77]; · iexact H77
  isplitl [H78]; · iexact H78
  isplitl [H79]; · iexact H79
  isplitl [H81]; · iexact H81
  isplitl [Hq]; · iexact Hq
  isplitl [HO]; · iexact HO
  iintro %v2 %v14 %v25 %e
  rw [hW1, hW2, hS0, hS1]
  iintro ⟨H83, H84, H85, H86, H87, H88, H89, H90, H91, H92, H93, H94, ⟨%W0, HO⟩⟩
  iapply (show _ ⊢ wp frame (wpE (defs₀ (F := F)) 𝒱₀ (c : Thread nD τ) none) Set.univ (tail0 c v2 v14 v25 (SemArray.scalar (sig.barrier 0 rfl)) e) Q from hop0 v K c W0 X W1 W2 hG v2 v14 v25 e (tail1 c v2 v14 v25 (SemArray.scalar (sig.barrier 0 rfl))) Q)
  isplitr; · iexact Hctx
  isplitr; · iexact H1
  isplitr; · iexact H2
  isplitr; · iexact H3
  isplitr; · iexact H5
  isplitr; · iexact H8
  isplitr; · iexact H10
  isplitl [H20]; · iexact H20
  isplitl [H21]; · iexact H21
  isplitl [H22]; · iexact H22
  isplitl [H24]; · iexact H24
  isplitl [H27]; · iexact H27
  isplitl [H29]; · iexact H29
  isplitl [H11]; · iexact H11
  isplitl [H50]; · iexact H50
  isplitl [H12]; · iexact H12
  isplitl [H16]; · iexact H16
  isplitl [H15]; · iexact H15
  isplitl [H52]; · iexact H52
  isplitl [H19]; · iexact H19
  isplitl [H54]; · iexact H54
  isplitl [H80]; · iexact H80
  isplitl [H65]; · iexact H65
  isplitl [H67]; · iexact H67
  isplitl [H68]; · iexact H68
  isplitl [H82]; · iexact H82
  isplitl [H69]; · iexact H69
  isplitl [H70]; · iexact H70
  isplitl [H72]; · iexact H72
  isplitl [H92]; · iexact H92
  isplitl [H93]; · iexact H93
  isplitl [H83]; · iexact H83
  isplitl [H86]; · iexact H86
  isplitl [H87]; · iexact H87
  isplitl [HO]; · iexact HO
  iintro ⟨⟨%W1', HO⟩, #H95, #H96, #H97, #H98, #H99, #H100, #H101, H102, H103, H104, H105, H106, H107, H108, H109, H110, H111, H112, H113, H114, H115, H116, H117, H118, H119⟩
  iapply (show _ ⊢ wp frame (wpE (defs₀ (F := F)) 𝒱₀ (c : Thread nD τ) none) Set.univ (tail1 c v2 v14 v25 (SemArray.scalar (sig.barrier 0 rfl))) Q from hop1 v K c W1' X W1 W2 hG v2 v14 v25 (tail2 c v2 v14 v25 (SemArray.scalar (sig.barrier 0 rfl))) Q)
  isplitr; · iexact Hctx
  isplitr; · iexact H96
  isplitr; · iexact H97
  isplitr; · iexact H4
  isplitr; · iexact H6
  isplitr; · iexact H7
  isplitr; · iexact H9
  isplitl [H30]; · iexact H30
  isplitl [H31]; · iexact H31
  isplitl [H23]; · iexact H23
  isplitl [H25]; · iexact H25
  isplitl [H26]; · iexact H26
  isplitl [H28]; · iexact H28
  isplitl [H102]; · iexact H102
  isplitl [H55]; · iexact H55
  isplitl [H13]; · iexact H13
  isplitl [H17]; · iexact H17
  isplitl [H14]; · iexact H14
  isplitl [H51]; · iexact H51
  isplitl [H18]; · iexact H18
  isplitl [H53]; · iexact H53
  isplitl [H115]; · iexact H115
  isplitl [H116]; · iexact H116
  isplitl [H113]; · iexact H113
  isplitl [H114]; · iexact H114
  isplitl [H117]; · iexact H117
  isplitl [H118]; · iexact H118
  isplitl [H119]; · iexact H119
  isplitl [HO]; · iexact HO
  iintro ⟨⟨%W2', HO⟩, #H120, #H121, #H122, #H123, #H124, #H125, #H126, H127, H128, H129, H130, H131, H132, H133, H134, H135, H136, H137, H138⟩
  iapply (show _ ⊢ wp frame (wpE (defs₀ (F := F)) 𝒱₀ (c : Thread nD τ) none) Set.univ (tail2 c v2 v14 v25 (SemArray.scalar (sig.barrier 0 rfl))) Q from hop2 v K c W2' X W1 W2 hG v2 v14 v25 (tail3 c v2 v14 v25) Q)
  isplitr; · iexact Hctx
  isplitr; · iexact H121
  isplitr; · iexact H122
  isplitr; · iexact H98
  isplitr; · iexact H99
  isplitr; · iexact H125
  isplitr; · iexact H100
  isplitr; · iexact H126
  isplitr; · iexact H101
  isplitl [H40]; · iexact H40
  isplitl [H41]; · iexact H41
  isplitl [H32]; · iexact H32
  isplitl [H34]; · iexact H34
  isplitl [H37]; · iexact H37
  isplitl [H39]; · iexact H39
  isplitl [H127]; · iexact H127
  isplitl [H60]; · iexact H60
  isplitl [H103]; · iexact H103
  isplitl [H104]; · iexact H104
  isplitl [H105]; · iexact H105
  isplitl [H57]; · iexact H57
  isplitl [H106]; · iexact H106
  isplitl [H59]; · iexact H59
  isplitl [H134]; · iexact H134
  isplitl [H135]; · iexact H135
  isplitl [H132]; · iexact H132
  isplitl [H133]; · iexact H133
  isplitl [H66]; · iexact H66
  isplitl [H71]; · iexact H71
  isplitl [H136]; · iexact H136
  isplitl [H137]; · iexact H137
  isplitl [H138]; · iexact H138
  isplitl [HO]; · iexact HO
  iintro ⟨⟨%W3', HO⟩, #H139, #H140, #H141, #H142, #H143, #H144, H145, H146, H147, H148, H149, H150, H151, H152, H153, H154, H155, H156, H157, H158⟩
  iapply (show _ ⊢ wp frame (wpE (defs₀ (F := F)) 𝒱₀ (c : Thread nD τ) none) Set.univ (tail3 c v2 v14 v25) Q from hop3 v K c W3' X W1 W2 hG v2 v14 v25 (fun e1 => tail4 c v2 v14 v25 e1) Q)
  isplitr; · iexact Hctx
  isplitr; · iexact H123
  isplitr; · iexact H124
  isplitr; · iexact H139
  isplitr; · iexact H140
  isplitr; · iexact H144
  isplitr; · iexact H143
  isplitl [H33]; · iexact H33
  isplitl [H35]; · iexact H35
  isplitl [H36]; · iexact H36
  isplitl [H38]; · iexact H38
  isplitl [H128]; · iexact H128
  isplitl [H129]; · iexact H129
  isplitl [H130]; · iexact H130
  isplitl [H56]; · iexact H56
  isplitl [H131]; · iexact H131
  isplitl [H58]; · iexact H58
  isplitl [H150]; · iexact H150
  isplitl [H151]; · iexact H151
  isplitl [H107]; · iexact H107
  isplitl [H110]; · iexact H110
  isplitl [HO]; · iexact HO
  iintro %e1
  iintro ⟨⟨%W4', HO⟩, #H159, #H160, #H161, #H162, #H163, #H164, H165, H166, H167, H168, H169, H170, H171, H172⟩
  iapply (show _ ⊢ wp frame (wpE (defs₀ (F := F)) 𝒱₀ (c : Thread nD τ) none) Set.univ (tail4 c v2 v14 v25 e1) Q from hop4 v K c W4' X W1 W2 hG v2 v14 v25 e1 (fun v858 c384 => tail5 c v14 v25 v858 c384) Q)
  isplitr; · iexact Hctx
  isplitr; · iexact H141
  isplitr; · iexact H142
  isplitr; · iexact H160
  isplitr; · iexact H159
  isplitr; · iexact H164
  isplitr; · iexact H163
  isplitl [H42]; · iexact H42
  isplitl [H44]; · iexact H44
  isplitl [H47]; · iexact H47
  isplitl [H49]; · iexact H49
  isplitl [H146]; · iexact H146
  isplitl [H147]; · iexact H147
  isplitl [H148]; · iexact H148
  isplitl [H62]; · iexact H62
  isplitl [H149]; · iexact H149
  isplitl [H64]; · iexact H64
  isplitl [H171]; · iexact H171
  isplitl [H172]; · iexact H172
  isplitl [H108]; · iexact H108
  isplitl [H111]; · iexact H111
  isplitl [HO]; · iexact HO
  iintro %v858 %c384
  iintro ⟨⟨%W5', HO⟩, #H173, #H174, #H175, #H176, #H177, #H178, H179, H180, H181, H182, H183, H184, H185, H186⟩
  iapply (show _ ⊢ wp frame (wpE (defs₀ (F := F)) 𝒱₀ (c : Thread nD τ) none) Set.univ (tail5 c v14 v25 v858 c384) Q from hop5 v K c W5' X W1 W2 hG v14 v25 v858 c384 (pure ⟨⟩) Q)
  isplitr; · iexact Hctx
  isplitr; · iexact H161
  isplitr; · iexact H162
  isplitr; · iexact H174
  isplitr; · iexact H173
  isplitl [H43]; · iexact H43
  isplitl [H45]; · iexact H45
  isplitl [H46]; · iexact H46
  isplitl [H48]; · iexact H48
  isplitl [H165]; · iexact H165
  isplitl [H166]; · iexact H166
  isplitl [H167]; · iexact H167
  isplitl [H61]; · iexact H61
  isplitl [H168]; · iexact H168
  isplitl [H63]; · iexact H63
  isplitl [H185]; · iexact H185
  isplitl [H186]; · iexact H186
  isplitl [H109]; · iexact H109
  isplitl [H112]; · iexact H112
  isplitl [HO]; · iexact HO
  iintro ⟨⟨%W6', HO⟩, #H187, #H188, #H189, #H190, H191, H192, H193, H194, H195, H196, H197, H198⟩
  imod (Rounds.cell_close ER (Rd v) (Set.mem_univ (K (c, 0))) (fun h => h) (R := 3) (duties_later v (barCell c))) $$ [H145] with HZ0
  · isplitr; · iexact HI0
    iexact H145
  imod (Rounds.cell_close ER (Rd v) (Set.mem_univ (K (c, 1))) (fun h => h) (R := 3) (duties_later v (sR0 c))) $$ [H179] with HZ1
  · isplitr; · iexact HI1
    iexact H179
  imod (Rounds.cell_close ER (Rd v) (Set.mem_univ (K (c, 2))) (fun h => h) (R := 3) (duties_later v (sR1 c))) $$ [H191] with HZ2
  · isplitr; · iexact HI2
    iexact H191
  imod (Rounds.cell_close ER (Rd v) (Set.mem_univ (K (c, 3))) (fun h => h) (R := 3) (duties_later v (vR0 c))) $$ [H193] with HZ3
  · isplitr; · iexact HI3
    iexact H193
  imod (Rounds.cell_close ER (Rd v) (Set.mem_univ (K (c, 4))) (fun h => h) (R := 3) (duties_later v (vR1 c))) $$ [H181] with HZ4
  · isplitr; · iexact HI4
    iexact H181
  imod (Rounds.cell_close ER (Rd v) (Set.mem_univ (K (c, 5))) (fun h => h) (R := 3) (duties_later v (sL0 c))) $$ [H180] with HZ5
  · isplitr; · iexact HI5
    iexact H180
  imod (Rounds.cell_close ER (Rd v) (Set.mem_univ (K (c, 6))) (fun h => h) (R := 3) (duties_later v (sL1 c))) $$ [H192] with HZ6
  · isplitr; · iexact HI6
    iexact H192
  imod (Rounds.cell_close ER (Rd v) (Set.mem_univ (K (c, 7))) (fun h => h) (R := 3) (duties_later v (vL0 c))) $$ [H194] with HZ7
  · isplitr; · iexact HI7
    iexact H194
  imod (Rounds.cell_close ER (Rd v) (Set.mem_univ (K (c, 8))) (fun h => h) (R := 3) (duties_later v (vL1 c))) $$ [H182] with HZ8
  · isplitr; · iexact HI8
    iexact H182
  rw [wp_pure]; imodintro
  iapply HK
  unfold bodyEnd sems outsAt slots
  isplitl [HO]; · iexists W6'; iexact HO
  isplitl [HZ0 HZ1 HZ2 HZ3 HZ4 HZ5 HZ6 HZ7 HZ8]
  · isplitl [HZ0]; · iexact HZ0
    isplitl [HZ1]; · iexact HZ1
    isplitl [HZ2]; · iexact HZ2
    isplitl [HZ3]; · iexact HZ3
    isplitl [HZ4]; · iexact HZ4
    isplitl [HZ5]; · iexact HZ5
    isplitl [HZ6]; · iexact HZ6
    isplitl [HZ7]; · iexact HZ7
    iexact HZ8
  isplitl [H183 H169 H195 H197 H184 H196 H170 H198]
  · isplitl [H183]; · iexact H183
    isplitl [H169]; · iexact H169
    isplitl [H195]; · iexact H195
    isplitl [H197]; · iexact H197
    isplitl [H184]; · iexact H184
    isplitl [H196]; · iexact H196
    isplitl [H170]; · iexact H170
    iexact H198
  isplitl [H157 H158 H88 H89 H90 H91 H154 H152 H155 H153]
  · isplitl [H157]; · iexists _; iexact H157
    isplitl [H158]; · iexists _; iexact H158
    isplitl [H88]; · iexact H88
    isplitl [H89]; · iexact H89
    isplitl [H90]; · iexact H90
    isplitl [H91]; · iexact H91
    isplitl [H154]; · iexact H154
    isplitl [H152]; · iexact H152
    isplitl [H155]; · iexact H155
    iexact H153
  isplitl [H156]; · iexact H156
  isplitl [H84]; · iexact H84
  isplitl [H85]; · iexact H85
  iexact H94

end Cert.RingMlp

end
-- ==== Proof.Cut.lean ====
/-
# The buffers cut into slots and regions, and put together again
-/
module

public import proofs.«01_k».proof.Proof.Body
public import Idealize.ShloMosaic.Lib.Ring

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-- A buffer held whole. -/
abbrev wh (b : Ref sig .tc) (c : Dev nD) : sProp 𝕄 := iprop(∃ f : Buf (Elt F) ((c : Thread nD τ).loc b), ((c : Thread nD τ).loc b) ↦{fullShare} f)

/-! ## Two slots -/

section Two
variable {b : Ref sig .tc} (c : Dev nD) {I J : Finset (Idx ((c : Thread nD τ).loc b))} (hd : Disjoint I J) (hc : I ∪ J = Finset.univ)
include hd hc
omit [FloatOps F] in
theorem two_cut : (wh (F := F) b c : sProp 𝕄)
    ⊢ iprop((∃ f, ((c : Thread nD τ).loc b) ↦[I]{fullShare} f) ∗ (∃ f, ((c : Thread nD τ).loc b) ↦[J]{fullShare} f)) := by
  iintro ⟨%f, H⟩
  ihave H' := (show (((c : Thread nD τ).loc b) ↦{fullShare} f : sProp 𝕄) ⊢ iprop((((c : Thread nD τ).loc b) ↦[I]{fullShare} f) ∗ ((c : Thread nD τ).loc b) ↦[J]{fullShare} f) from
    (Entails.of_eq (by rw [hc])).trans (pointsTo_union hd).1) $$ H
  icases H' with ⟨H1, H2⟩
  isplitl [H1]
  · iexists f; iexact H1
  · iexists f; iexact H2
omit [FloatOps F] in
theorem two_join : iprop((∃ f, ((c : Thread nD τ).loc b) ↦[I]{fullShare} f) ∗ (∃ f, ((c : Thread nD τ).loc b) ↦[J]{fullShare} f))
    ⊢ (wh (F := F) b c : sProp 𝕄) := by
  iintro ⟨⟨%f, H1⟩, ⟨%g, H2⟩⟩
  iexists (J.piecewise g f)
  iapply (show iprop((((c : Thread nD τ).loc b) ↦[I]{fullShare} f) ∗ ((c : Thread nD τ).loc b) ↦[J]{fullShare} g) ⊢ (((c : Thread nD τ).loc b) ↦{fullShare} (J.piecewise g f) : sProp 𝕄) from
    (pointsTo_join hd).trans (Entails.of_eq (by rw [hc])))
  isplitl [H1] <;> iassumption
end Two

/-- The two slots of a buffer whose first axis has two positions: apart, and everything. -/
theorem slots_apart {s : Shape} (a : Fin s.rank) {o o' z z' : Fin s.rank → ℕ} {h} {h'} (he : o a + z a ≤ o' a) :
    Disjoint (Rect.unit (s := s) o z h).set (Rect.unit (s := s) o' z' h').set := Rect.unit_disjoint a (Or.inl he)

theorem cover_S2x192x1536 : (Rect.unit (s := S2x192x1536) ![0, 0, 0] S1x192x1536.size inb_S2x192x1536_S1x192x1536_0_0_0).set ∪ (Rect.unit (s := S2x192x1536) ![1, 0, 0] S1x192x1536.size inb_S2x192x1536_S1x192x1536_1_0_0).set = Finset.univ := by
  ext y
  simp only [Finset.mem_union, Finset.mem_univ, iff_true, Rect.mem_set_unit]
  have h0 : (y 0).val < 2 := (y 0).isLt
  have h1 := (y 1).isLt
  have h2 := (y 2).isLt
  by_cases h : (y 0).val = 0
  · refine Or.inl fun a => ?_
    fin_cases a
    · exact ⟨Nat.zero_le _, show (y 0).val < 0 + 1 by omega⟩
    · exact ⟨Nat.zero_le _, show (y 1).val < 0 + S2x192x1536.size 1 by omega⟩
    · exact ⟨Nat.zero_le _, show (y 2).val < 0 + S2x192x1536.size 2 by omega⟩
  · refine Or.inr fun a => ?_
    fin_cases a
    · exact ⟨show 1 ≤ (y 0).val by omega, show (y 0).val < 1 + 1 by omega⟩
    · exact ⟨Nat.zero_le _, show (y 1).val < 0 + S2x192x1536.size 1 by omega⟩
    · exact ⟨Nat.zero_le _, show (y 2).val < 0 + S2x192x1536.size 2 by omega⟩
theorem set_r0S : (r0S).view.set = (Rect.unit (s := S2x192x1536) ![0, 0, 0] S1x192x1536.size inb_S2x192x1536_S1x192x1536_0_0_0).set := by
  exact (View.set_reshape _ _).trans (View.set_slice_whole _ _)
theorem set_r1S : (r1S).view.set = (Rect.unit (s := S2x192x1536) ![1, 0, 0] S1x192x1536.size inb_S2x192x1536_S1x192x1536_1_0_0).set := by
  exact (View.set_reshape _ _).trans (View.set_slice_whole _ _)
omit [FloatOps F] in
theorem cut_r (c : Dev nD) : (wh (F := F) cc0_scratch4 c : sProp 𝕄) ⊢ iprop(any_ r0S c ∗ any_ r1S c) := by
  unfold any_ held
  rw [set_r0S, set_r1S]
  exact two_cut c (slots_apart 0 (by decide)) cover_S2x192x1536
omit [FloatOps F] in
theorem join_r (c : Dev nD) : iprop(any_ r0S c ∗ any_ r1S c) ⊢ (wh (F := F) cc0_scratch4 c : sProp 𝕄) := by
  unfold any_ held
  rw [set_r0S, set_r1S]
  exact two_join c (slots_apart 0 (by decide)) cover_S2x192x1536
theorem set_l0S : (l0S).view.set = (Rect.unit (s := S2x192x1536) ![0, 0, 0] S1x192x1536.size inb_S2x192x1536_S1x192x1536_0_0_0).set := by
  exact (View.set_reshape _ _).trans (View.set_slice_whole _ _)
theorem set_l1S : (l1S).view.set = (Rect.unit (s := S2x192x1536) ![1, 0, 0] S1x192x1536.size inb_S2x192x1536_S1x192x1536_1_0_0).set := by
  exact (View.set_reshape _ _).trans (View.set_slice_whole _ _)
omit [FloatOps F] in
theorem cut_l (c : Dev nD) : (wh (F := F) cc0_scratch5 c : sProp 𝕄) ⊢ iprop(any_ l0S c ∗ any_ l1S c) := by
  unfold any_ held
  rw [set_l0S, set_l1S]
  exact two_cut c (slots_apart 0 (by decide)) cover_S2x192x1536
omit [FloatOps F] in
theorem join_l (c : Dev nD) : iprop(any_ l0S c ∗ any_ l1S c) ⊢ (wh (F := F) cc0_scratch5 c : sProp 𝕄) := by
  unfold any_ held
  rw [set_l0S, set_l1S]
  exact two_join c (slots_apart 0 (by decide)) cover_S2x192x1536
theorem cover_S2x192x3072 : (Rect.unit (s := S2x192x3072) ![0, 0, 0] S1x192x3072.size inb_S2x192x3072_S1x192x3072_0_0_0).set ∪ (Rect.unit (s := S2x192x3072) ![1, 0, 0] S1x192x3072.size inb_S2x192x3072_S1x192x3072_1_0_0).set = Finset.univ := by
  ext y
  simp only [Finset.mem_union, Finset.mem_univ, iff_true, Rect.mem_set_unit]
  have h0 : (y 0).val < 2 := (y 0).isLt
  have h1 := (y 1).isLt
  have h2 := (y 2).isLt
  by_cases h : (y 0).val = 0
  · refine Or.inl fun a => ?_
    fin_cases a
    · exact ⟨Nat.zero_le _, show (y 0).val < 0 + 1 by omega⟩
    · exact ⟨Nat.zero_le _, show (y 1).val < 0 + S2x192x3072.size 1 by omega⟩
    · exact ⟨Nat.zero_le _, show (y 2).val < 0 + S2x192x3072.size 2 by omega⟩
  · refine Or.inr fun a => ?_
    fin_cases a
    · exact ⟨show 1 ≤ (y 0).val by omega, show (y 0).val < 1 + 1 by omega⟩
    · exact ⟨Nat.zero_le _, show (y 1).val < 0 + S2x192x3072.size 1 by omega⟩
    · exact ⟨Nat.zero_le _, show (y 2).val < 0 + S2x192x3072.size 2 by omega⟩
theorem set_s10 : (s10).view.set = (Rect.unit (s := S2x192x3072) ![0, 0, 0] S1x192x3072.size inb_S2x192x3072_S1x192x3072_0_0_0).set := by
  exact (View.set_reshape _ _).trans (View.set_slice_whole _ _)
theorem set_s11 : (s11).view.set = (Rect.unit (s := S2x192x3072) ![1, 0, 0] S1x192x3072.size inb_S2x192x3072_S1x192x3072_1_0_0).set := by
  exact (View.set_reshape _ _).trans (View.set_slice_whole _ _)
omit [FloatOps F] in
theorem cut_s1 (c : Dev nD) : (wh (F := F) cc0_scratch2 c : sProp 𝕄) ⊢ iprop(any_ s10 c ∗ any_ s11 c) := by
  unfold any_ held
  rw [set_s10, set_s11]
  exact two_cut c (slots_apart 0 (by decide)) cover_S2x192x3072
omit [FloatOps F] in
theorem join_s1 (c : Dev nD) : iprop(any_ s10 c ∗ any_ s11 c) ⊢ (wh (F := F) cc0_scratch2 c : sProp 𝕄) := by
  unfold any_ held
  rw [set_s10, set_s11]
  exact two_join c (slots_apart 0 (by decide)) cover_S2x192x3072
theorem cover_S2x384x1536 : (Rect.unit (s := S2x384x1536) ![0, 0, 0] S1x384x1536.size inb_S2x384x1536_S1x384x1536_0_0_0).set ∪ (Rect.unit (s := S2x384x1536) ![1, 0, 0] S1x384x1536.size inb_S2x384x1536_S1x384x1536_1_0_0).set = Finset.univ := by
  ext y
  simp only [Finset.mem_union, Finset.mem_univ, iff_true, Rect.mem_set_unit]
  have h0 : (y 0).val < 2 := (y 0).isLt
  have h1 := (y 1).isLt
  have h2 := (y 2).isLt
  by_cases h : (y 0).val = 0
  · refine Or.inl fun a => ?_
    fin_cases a
    · exact ⟨Nat.zero_le _, show (y 0).val < 0 + 1 by omega⟩
    · exact ⟨Nat.zero_le _, show (y 1).val < 0 + S2x384x1536.size 1 by omega⟩
    · exact ⟨Nat.zero_le _, show (y 2).val < 0 + S2x384x1536.size 2 by omega⟩
  · refine Or.inr fun a => ?_
    fin_cases a
    · exact ⟨show 1 ≤ (y 0).val by omega, show (y 0).val < 1 + 1 by omega⟩
    · exact ⟨Nat.zero_le _, show (y 1).val < 0 + S2x384x1536.size 1 by omega⟩
    · exact ⟨Nat.zero_le _, show (y 2).val < 0 + S2x384x1536.size 2 by omega⟩
theorem set_s20 : (s20).view.set = (Rect.unit (s := S2x384x1536) ![0, 0, 0] S1x384x1536.size inb_S2x384x1536_S1x384x1536_0_0_0).set := by
  exact (View.set_reshape _ _).trans (View.set_slice_whole _ _)
theorem set_s21 : (s21).view.set = (Rect.unit (s := S2x384x1536) ![1, 0, 0] S1x384x1536.size inb_S2x384x1536_S1x384x1536_1_0_0).set := by
  exact (View.set_reshape _ _).trans (View.set_slice_whole _ _)
omit [FloatOps F] in
theorem cut_s2 (c : Dev nD) : (wh (F := F) cc0_scratch3 c : sProp 𝕄) ⊢ iprop(any_ s20 c ∗ any_ s21 c) := by
  unfold any_ held
  rw [set_s20, set_s21]
  exact two_cut c (slots_apart 0 (by decide)) cover_S2x384x1536
omit [FloatOps F] in
theorem join_s2 (c : Dev nD) : iprop(any_ s20 c ∗ any_ s21 c) ⊢ (wh (F := F) cc0_scratch3 c : sProp 𝕄) := by
  unfold any_ held
  rw [set_s20, set_s21]
  exact two_join c (slots_apart 0 (by decide)) cover_S2x384x1536

/-! ## The result's eight regions -/

/-- A region: which chunk, and whether its left half. -/
abbrev Rg : Type := Dev nD × Bool
def regS : Rg → Finset S1536x1536.Idx
  | (j, false) => (Rect.unit (s := S1536x1536) (offR j) S192x1536.size (offR_inb j)).set
  | (j, true) => (Rect.unit (s := S1536x1536) (offL j) S192x1536.size (offL_inb j)).set

theorem mem_regS (j : Dev nD) (f : Bool) (y : S1536x1536.Idx) : y ∈ regS (j, f) ↔ 384 * j.val + (if f then 192 else 0) ≤ (y 0).val ∧ (y 0).val < 384 * j.val + (if f then 192 else 0) + 192 := by
  have h1 := (y 1).isLt
  cases f
  · show y ∈ (Rect.unit (s := S1536x1536) (offR j) S192x1536.size (offR_inb j)).set ↔ _
    rw [Rect.mem_set_unit]
    refine ⟨fun h => h 0, fun h a => ?_⟩
    fin_cases a
    · exact h
    · exact ⟨Nat.zero_le _, show (y 1).val < 0 + S1536x1536.size 1 by omega⟩
  · show y ∈ (Rect.unit (s := S1536x1536) (offL j) S192x1536.size (offL_inb j)).set ↔ _
    rw [Rect.mem_set_unit]
    refine ⟨fun h => h 0, fun h a => ?_⟩
    fin_cases a
    · exact h
    · exact ⟨Nat.zero_le _, show (y 1).val < 0 + S1536x1536.size 1 by omega⟩

theorem regS_apart (b b' : Rg) (h : b ≠ b') : Disjoint (regS b) (regS b') := by
  obtain ⟨j, f⟩ := b; obtain ⟨j', f'⟩ := b'
  rw [Finset.disjoint_left]
  intro y h1 h2
  rw [mem_regS] at h1 h2
  apply h
  have hj : j.val = j'.val := by cases f <;> cases f' <;> simp only [if_true, if_false, Bool.false_eq_true] at h1 h2 <;> omega
  have hj' : j = j' := Fin.ext hj
  subst hj'
  cases f <;> cases f' <;> simp only [if_true, if_false, Bool.false_eq_true] at h1 h2 <;> first | rfl | omega

theorem regS_cover : Finset.univ.biUnion regS = Finset.univ := by
  ext y
  simp only [Finset.mem_biUnion, Finset.mem_univ, true_and, iff_true]
  have h0 : (y 0).val < 1536 := (y 0).isLt
  by_cases h : (y 0).val % 384 < 192
  · refine ⟨(⟨(y 0).val / 384, by show _ < 4; omega⟩, false), (mem_regS _ _ _).mpr ?_⟩
    simp only [if_false, Bool.false_eq_true]; omega
  · refine ⟨(⟨(y 0).val / 384, by show _ < 4; omega⟩, true), (mem_regS _ _ _).mpr ?_⟩
    simp only [if_true]; omega

/-- The eight regions, in the order in which a device names them. -/
def rgs (c : Dev nD) : List Rg := [(c, false), (nxt c, false), (prv c, false), (prv (prv c), false), (c, true), (nxt c, true), (prv c, true), (nxt (nxt c), true)]
theorem rgs_all (c : Dev nD) : (Finset.univ : Finset Rg) = (rgs c).toFinset := by revert c; decide
theorem rgs_nodup (c : Dev nD) : (rgs c).Nodup := by revert c; decide

theorem set_outR (j : Dev nD) : (outR j).view.set = regS (j, false) := View.set_slice_whole _ _
theorem set_outL (j : Dev nD) : (outL j).view.set = regS (j, true) := View.set_slice_whole _ _

omit [FloatOps F] in
theorem out_blocks (c : Dev nD) (f : Buf (Elt F) ((c : Thread nD τ).loc cc0_stg1_0)) :
    (((c : Thread nD τ).loc cc0_stg1_0) ↦{fullShare} f : sProp 𝕄)
      = iprop((((c : Thread nD τ).loc cc0_stg1_0) ↦[regS (c, false)]{fullShare} f) ∗ (((c : Thread nD τ).loc cc0_stg1_0) ↦[regS (nxt c, false)]{fullShare} f)
        ∗ (((c : Thread nD τ).loc cc0_stg1_0) ↦[regS (prv c, false)]{fullShare} f) ∗ (((c : Thread nD τ).loc cc0_stg1_0) ↦[regS (prv (prv c), false)]{fullShare} f)
        ∗ (((c : Thread nD τ).loc cc0_stg1_0) ↦[regS (c, true)]{fullShare} f) ∗ (((c : Thread nD τ).loc cc0_stg1_0) ↦[regS (nxt c, true)]{fullShare} f)
        ∗ (((c : Thread nD τ).loc cc0_stg1_0) ↦[regS (prv c, true)]{fullShare} f) ∗ (((c : Thread nD τ).loc cc0_stg1_0) ↦[regS (nxt (nxt c), true)]{fullShare} f)) :=
  (Ring.pointsTo_blocks (ℓ := (c : Thread nD τ).loc cc0_stg1_0) regS regS_apart regS_cover f).trans (bigSep_univ_eq_bigSepL (rgs c) (rgs_all c) (rgs_nodup c) _)

omit [FloatOps F] in
theorem any_outR (c j : Dev nD) : (any_ (F := F) (outR j) c : sProp 𝕄) = iprop(∃ f : Buf (Elt F) ((c : Thread nD τ).loc cc0_stg1_0), ((c : Thread nD τ).loc cc0_stg1_0) ↦[regS (j, false)]{fullShare} f) := by unfold any_ held; rw [set_outR]
omit [FloatOps F] in
theorem any_outL (c j : Dev nD) : (any_ (F := F) (outL j) c : sProp 𝕄) = iprop(∃ f : Buf (Elt F) ((c : Thread nD τ).loc cc0_stg1_0), ((c : Thread nD τ).loc cc0_stg1_0) ↦[regS (j, true)]{fullShare} f) := by unfold any_ held; rw [set_outL]
omit [FloatOps F] in
theorem cut_out (c : Dev nD) : (wh (F := F) cc0_stg1_0 c : sProp 𝕄) ⊢ outs c := by
  unfold outs
  rw [any_outR, any_outR, any_outR, any_outR, any_outL, any_outL, any_outL, any_outL]
  iintro ⟨%f, H⟩
  ihave H' := (Entails.of_eq (out_blocks c f)) $$ H
  icases H' with ⟨H1, H2, H3, H4, H5, H6, H7, H8⟩
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  isplitl [H7]; · iexists f; iexact H7
  iexists f; iexact H8

/-- The place of a row of the result within its region. -/
def inRg (y : S1536x1536.Idx) : S192x1536.Idx := fun a => match a with
  | ⟨0, _⟩ => ⟨(y 0).val % 192, Nat.mod_lt _ (by decide)⟩
  | ⟨1, _⟩ => ⟨(y 1).val, (y 1).isLt⟩

/-- The result, put together from the finished regions. -/
def outV (v : Vals F) : S1536x1536.Idx → Elt F .bf16 := fun y =>
  if (y 0).val % 384 < 192 then v.gR ⟨(y 0).val / 384, by have : (y 0).val < 1536 := (y 0).isLt; show _ < 4; omega⟩ (inRg y)
  else v.gL ⟨(y 0).val / 384, by have : (y 0).val < 1536 := (y 0).isLt; show _ < 4; omega⟩ (inRg y)

theorem outV_R (v : Vals F) (j : Dev nD) : (outR j).view.read (Elt F) (outV v) = v.gR j := by
  funext x
  have h0 : (x 0).val < 192 := (x 0).isLt
  show outV v ((Rect.unit (s := S1536x1536) (offR j) S192x1536.size (offR_inb j)).emb x) = v.gR j x
  have e0 : (((Rect.unit (s := S1536x1536) (offR j) S192x1536.size (offR_inb j)).emb x) 0).val = 384 * j.val + 1 * (x 0).val := rfl
  have e1 : (((Rect.unit (s := S1536x1536) (offR j) S192x1536.size (offR_inb j)).emb x) 1).val = 0 + 1 * (x 1).val := rfl
  have hi : inRg ((Rect.unit (s := S1536x1536) (offR j) S192x1536.size (offR_inb j)).emb x) = x := by
    funext a
    refine Fin.ext ?_
    fin_cases a
    · show (((Rect.unit (s := S1536x1536) (offR j) S192x1536.size (offR_inb j)).emb x) 0).val % 192 = (x 0).val
      rw [e0]; omega
    · show (((Rect.unit (s := S1536x1536) (offR j) S192x1536.size (offR_inb j)).emb x) 1).val = (x 1).val
      rw [e1]; omega
  unfold outV
  rw [if_pos (by rw [e0]; omega), hi]
  congr 2
  rw [e0]; omega

theorem outV_L (v : Vals F) (j : Dev nD) : (outL j).view.read (Elt F) (outV v) = v.gL j := by
  funext x
  have h0 : (x 0).val < 192 := (x 0).isLt
  show outV v ((Rect.unit (s := S1536x1536) (offL j) S192x1536.size (offL_inb j)).emb x) = v.gL j x
  have e0 : (((Rect.unit (s := S1536x1536) (offL j) S192x1536.size (offL_inb j)).emb x) 0).val = (384 * j.val + 192) + 1 * (x 0).val := rfl
  have e1 : (((Rect.unit (s := S1536x1536) (offL j) S192x1536.size (offL_inb j)).emb x) 1).val = 0 + 1 * (x 1).val := rfl
  have hi : inRg ((Rect.unit (s := S1536x1536) (offL j) S192x1536.size (offL_inb j)).emb x) = x := by
    funext a
    refine Fin.ext ?_
    fin_cases a
    · show (((Rect.unit (s := S1536x1536) (offL j) S192x1536.size (offL_inb j)).emb x) 0).val % 192 = (x 0).val
      rw [e0]; omega
    · show (((Rect.unit (s := S1536x1536) (offL j) S192x1536.size (offL_inb j)).emb x) 1).val = (x 1).val
      rw [e1]; omega
  unfold outV
  rw [if_neg (by rw [e0]; omega), hi]
  congr 2
  rw [e0]; omega

theorem at_outR (v : Vals F) (c j : Dev nD) : (at_ (outR j) c (v.gR j) : sProp 𝕄) = (((c : Thread nD τ).loc cc0_stg1_0) ↦[regS (j, false)]{fullShare} outV v) := by
  have h := pointsTo_rep (Ix := ℕ) (Name := ℕ) (U := UU) (Lvl := ℕ) (c : Thread nD τ) (outR j) (outV v : Buf (Elt F) ((outR j).view.loc (c : Thread nD τ))) fullShare
  rw [outV_R] at h
  rw [← set_outR]; exact h.symm
theorem at_outL (v : Vals F) (c j : Dev nD) : (at_ (outL j) c (v.gL j) : sProp 𝕄) = (((c : Thread nD τ).loc cc0_stg1_0) ↦[regS (j, true)]{fullShare} outV v) := by
  have h := pointsTo_rep (Ix := ℕ) (Name := ℕ) (U := UU) (Lvl := ℕ) (c : Thread nD τ) (outL j) (outV v : Buf (Elt F) ((outL j).view.loc (c : Thread nD τ))) fullShare
  rw [outV_L] at h
  rw [← set_outL]; exact h.symm

theorem join_out (v : Vals F) (c : Dev nD) : outsAt v c ⊢ (((c : Thread nD τ).loc cc0_stg1_0) ↦{fullShare} outV v : sProp 𝕄) := by
  rw [out_blocks]
  unfold outsAt
  rw [at_outR, at_outR, at_outR, at_outR, at_outL, at_outL, at_outL, at_outL]

/-! ## All the scratch memory -/

/-- The six scratch buffers held whole. -/
def scr (c : Dev nD) : sProp 𝕄 :=
  iprop(wh (F := F) cc0_scratch0 c ∗ wh (F := F) cc0_scratch1 c ∗ wh (F := F) cc0_scratch2 c ∗ wh (F := F) cc0_scratch3 c ∗ wh (F := F) cc0_scratch4 c ∗ wh (F := F) cc0_scratch5 c)

omit [FloatOps F] in
theorem any_w (c : Dev nD) : (any_ (F := F) wM c : sProp 𝕄) = wh cc0_scratch0 c := by unfold any_ held; rw [Memref.view_whole, View.set_whole]
omit [FloatOps F] in
theorem any_z (c : Dev nD) : (any_ (F := F) zM c : sProp 𝕄) = wh cc0_scratch1 c := by unfold any_ held; rw [Memref.view_whole, View.set_whole]

omit [FloatOps F] in
theorem cut_scr (c : Dev nD) : scr (F := F) c ⊢ slots c := by
  unfold scr slots
  rw [any_w, any_z]
  iintro ⟨H0, H1, H2, H3, H4, H5⟩
  ihave H2' := (cut_s1 c) $$ H2
  ihave H3' := (cut_s2 c) $$ H3
  ihave H4' := (cut_r c) $$ H4
  ihave H5' := (cut_l c) $$ H5
  icases H2' with ⟨Ha, Hb⟩
  icases H3' with ⟨Hc, Hd⟩
  icases H4' with ⟨He, Hf⟩
  isplitl [H0]; · iexact H0
  isplitl [H1]; · iexact H1
  isplitl [Ha]; · iexact Ha
  isplitl [Hb]; · iexact Hb
  isplitl [Hc]; · iexact Hc
  isplitl [Hd]; · iexact Hd
  isplitl [He]; · iexact He
  isplitl [Hf]; · iexact Hf
  iexact H5'

omit [FloatOps F] in
theorem join_scr (c : Dev nD) : slots (F := F) c ⊢ scr c := by
  unfold scr slots
  rw [any_w, any_z]
  iintro ⟨H0, H1, Ha, Hb, Hc, Hd, He, Hf, Hg⟩
  isplitl [H0]; · iexact H0
  isplitl [H1]; · iexact H1
  isplitl [Ha Hb]
  · iapply (join_s1 c); isplitl [Ha] <;> iassumption
  isplitl [Hc Hd]
  · iapply (join_s2 c); isplitl [Hc] <;> iassumption
  isplitl [He Hf]
  · iapply (join_r c); isplitl [He] <;> iassumption
  iapply (join_l c); iexact Hg

end Cert.RingMlp

end
-- ==== Proof.Ghost.lean ====
/-
# The launch: cells, duties, credit
-/
module

public import proofs.«01_k».proof.Proof.Cut
public import proofs.«01_k».proof.Proof.Gen.KernelIdeal.Launch

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (v : Vals F)

/-! ## The nine cells of a device, by number -/

set_option backward.proofsInPublic true in
/-- The barrier, and the eight semaphores of the two streams. -/
abbrev csem : Fin 9 → SemLoc sig := fun
  | 0 => .reg barS | 1 => .dma ⟨6, by decide⟩ | 2 => .dma ⟨7, by decide⟩ | 3 => .dma ⟨8, by decide⟩ | 4 => .dma ⟨9, by decide⟩
  | 5 => .dma ⟨10, by decide⟩ | 6 => .dma ⟨11, by decide⟩ | 7 => .dma ⟨12, by decide⟩ | 8 => .dma ⟨13, by decide⟩
abbrev kcell (ck : Dev nD × Fin 9) : GSem nD τ sig := ((ck.1 : Thread nD τ), csem ck.2)

set_option backward.proofsInPublic true in
/-- The kernel's own semaphores: four of local copies, eight of the streams. -/
abbrev osem : Fin 12 → SemLoc sig := fun
  | 0 => .dma ⟨2, by decide⟩ | 1 => .dma ⟨3, by decide⟩ | 2 => .dma ⟨4, by decide⟩ | 3 => .dma ⟨5, by decide⟩
  | 4 => .dma ⟨6, by decide⟩ | 5 => .dma ⟨7, by decide⟩ | 6 => .dma ⟨8, by decide⟩ | 7 => .dma ⟨9, by decide⟩
  | 8 => .dma ⟨10, by decide⟩ | 9 => .dma ⟨11, by decide⟩ | 10 => .dma ⟨12, by decide⟩ | 11 => .dma ⟨13, by decide⟩
theorem ownSemFacts : Pipeline.OwnSemFacts cfg0.spec osem := by decide

theorem csem_injective : Function.Injective csem := by decide
theorem kcell_injective : Function.Injective (kcell : Dev nD × Fin 9 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- Which of a device's cells a duty is on, and the barrier's second duty apart. -/
abbrev Dt : Type := Fin 3 × Option (Fin 9)
abbrev tokOf (x : Dev nD × Dt) : GSem nD τ sig × ℕ × Bool := match x.2.2 with
  | none => (kcell (x.1, 0), x.2.1.val, true)
  | some k => (kcell (x.1, k), x.2.1.val, false)
theorem tokOf_injective : Function.Injective (tokOf : Dev nD × Dt → GSem nD τ sig × ℕ × Bool) := by
  rintro ⟨c, r, o⟩ ⟨c', r', o'⟩ h
  have hr : r = r' := by
    have := congrArg (fun x : GSem nD τ sig × ℕ × Bool => x.2.1) h
    rcases o with _ | k <;> rcases o' with _ | k' <;> exact Fin.ext this
  have hg := congrArg (fun x : GSem nD τ sig × ℕ × Bool => x.1) h
  have hb := congrArg (fun x : GSem nD τ sig × ℕ × Bool => x.2.2) h
  subst hr
  rcases o with _ | k <;> rcases o' with _ | k'
  · have h1 : c = c' := (Prod.mk.inj (kcell_injective hg)).1
    rw [h1]
  · exact absurd (show true = false from hb) (by decide)
  · exact absurd (show false = true from hb) (by decide)
  · have h1 : c = c' := (Prod.mk.inj (kcell_injective hg)).1
    have h2 : k = k' := (Prod.mk.inj (kcell_injective hg)).2
    rw [h1, h2]
def ringToks : Finset (GSem nD τ sig × ℕ × Bool) := Finset.univ.map ⟨tokOf, tokOf_injective⟩

omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ
omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_opt (Φ : Option (Fin 9) → sProp 𝕄) : bigSep Finset.univ Φ
    = iprop(Φ none ∗ Φ (some 0) ∗ Φ (some 1) ∗ Φ (some 2) ∗ Φ (some 3) ∗ Φ (some 4) ∗ Φ (some 5) ∗ Φ (some 6) ∗ Φ (some 7) ∗ Φ (some 8)) :=
  bigSep_univ_eq_bigSepL [none, some 0, some 1, some 2, some 3, some 4, some 5, some 6, some 7, some 8] (by decide) (by decide) Φ

/-! ## The duties, minted with their cells and dealt to those who pay them -/

/-- The duties of round `r` on device `c`'s own cells. -/
def mint (c : Dev nD) (r : ℕ) : sProp 𝕄 :=
  iprop(dutyTok ER (barCell c) r true
    ∗ dutyTok ER (barCell c) r false
    ∗ dutyTok ER (sR0 c) r false
    ∗ dutyTok ER (sR1 c) r false
    ∗ dutyTok ER (vR0 c) r false
    ∗ dutyTok ER (vR1 c) r false
    ∗ dutyTok ER (sL0 c) r false
    ∗ dutyTok ER (sL1 c) r false
    ∗ dutyTok ER (vL0 c) r false
    ∗ dutyTok ER (vL1 c) r false)
/-- The duties of round `r` that device `c` pays. -/
def due (c : Dev nD) (r : ℕ) : sProp 𝕄 :=
  iprop(dutyTok ER (barCell (prv c)) r true
    ∗ dutyTok ER (barCell (nxt c)) r false
    ∗ dutyTok ER (sR0 c) r false
    ∗ dutyTok ER (sR1 c) r false
    ∗ dutyTok ER (sL0 c) r false
    ∗ dutyTok ER (sL1 c) r false
    ∗ dutyTok ER (vR0 (nxt c)) r false
    ∗ dutyTok ER (vR1 (nxt c)) r false
    ∗ dutyTok ER (vL0 (prv c)) r false
    ∗ dutyTok ER (vL1 (prv c)) r false)

omit [FloatOps F] in
theorem mint_due (r : ℕ) : (bigSep Finset.univ fun c : Dev nD => (mint c r : sProp 𝕄)) ⊢ bigSep Finset.univ fun c : Dev nD => due c r := by
  unfold mint due
  simp only [bigSep_sep']
  rw [bigSep_univ_equiv ring.symm (fun c : Dev nD => (dutyTok ER (barCell c) r true : sProp 𝕄)),
    bigSep_univ_equiv ring (fun c : Dev nD => (dutyTok ER (barCell c) r false : sProp 𝕄)),
    bigSep_univ_equiv ring (fun c : Dev nD => (dutyTok ER (vR0 c) r false : sProp 𝕄)),
    bigSep_univ_equiv ring (fun c : Dev nD => (dutyTok ER (vR1 c) r false : sProp 𝕄)),
    bigSep_univ_equiv ring.symm (fun c : Dev nD => (dutyTok ER (vL0 c) r false : sProp 𝕄)),
    bigSep_univ_equiv ring.symm (fun c : Dev nD => (dutyTok ER (vL1 c) r false : sProp 𝕄))]
  iintro ⟨T, H0, H1, H2, H3, H4, H5, H6, H7, H8⟩
  isplitl [T]; · iexact T
  isplitl [H0]; · iexact H0
  isplitl [H1]; · iexact H1
  isplitl [H2]; · iexact H2
  isplitl [H5]; · iexact H5
  isplitl [H6]; · iexact H6
  isplitl [H3]; · iexact H3
  isplitl [H4]; · iexact H4
  isplitl [H7]; · iexact H7
  iexact H8

omit [FloatOps F] in
theorem due_pay (c : Dev nD) : iprop(due (F := F) c 0 ∗ due c 1 ∗ due c 2) ⊢ payToks c := by
  unfold due payToks
  iintro ⟨⟨A0, A1, A2, A3, A4, A5, A6, A7, A8, A9⟩, ⟨B0, B1, B2, B3, B4, B5, B6, B7, B8, B9⟩, ⟨C0, C1, C2, C3, C4, C5, C6, C7, C8, C9⟩⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [C8]; · iexact C8
  iexact C9

/-- All the duties of device `c`'s own cells. -/
def toks (c : Dev nD) : sProp 𝕄 := iprop(mint (F := F) c 0 ∗ mint c 1 ∗ mint c 2)

omit [FloatOps F] in
/-- The duties dealt around the ring. -/
theorem toks_around : (bigSep Finset.univ fun c : Dev nD => (toks c : sProp 𝕄)) ⊢ bigSep Finset.univ fun c : Dev nD => payToks c := by
  unfold toks
  simp only [bigSep_sep']
  iintro ⟨H0, H1, H2⟩
  ihave G0 := (mint_due (F := F) 0) $$ H0
  ihave G1 := (mint_due (F := F) 1) $$ H1
  ihave G2 := (mint_due (F := F) 2) $$ H2
  iapply (show iprop((bigSep Finset.univ fun c : Dev nD => (due c 0 : sProp 𝕄)) ∗ (bigSep Finset.univ fun c : Dev nD => due c 1) ∗ bigSep Finset.univ fun c : Dev nD => due c 2)
      ⊢ bigSep Finset.univ fun c : Dev nD => payToks c from by
    rw [← bigSep_sep', ← bigSep_sep']; exact bigSep_mono fun c _ => due_pay c)
  isplitl [G0]; · iexact G0
  isplitl [G1] <;> iassumption

/-! ## What the launch deals, and what the devices make of it -/

/-- What the launch deals device `c`. -/
def G (c : Dev nD) : sProp 𝕄 :=
  iprop((bigSep Finset.univ fun k : Fin 9 => roundState ER (Rd v) (kcell (c, k)) 0)
    ∗ (bigSep Finset.univ fun k : Fin 9 => iprop(atPos ER (kcell (c, k)) 0 ∅ 0 ∗ reached ER (kcell (c, k)) 0)) ∗ toks c)

/-- The invariants it uses. -/
def invs (K : Dev nD × Fin 9 → ℕ) (c : Dev nD) : sProp 𝕄 :=
  iprop(cellInv ER (Rd v) (K (c, 0)) (barCell c)
    ∗ cellInv ER (Rd v) (K (c, 1)) (sR0 c)
    ∗ cellInv ER (Rd v) (K (c, 2)) (sR1 c)
    ∗ cellInv ER (Rd v) (K (c, 3)) (vR0 c)
    ∗ cellInv ER (Rd v) (K (c, 4)) (vR1 c)
    ∗ cellInv ER (Rd v) (K (c, 5)) (sL0 c)
    ∗ cellInv ER (Rd v) (K (c, 6)) (sL1 c)
    ∗ cellInv ER (Rd v) (K (c, 7)) (vL0 c)
    ∗ cellInv ER (Rd v) (K (c, 8)) (vL1 c)
    ∗ cellInv ER (Rd v) (K (nxt c, 0)) (barCell (nxt c))
    ∗ cellInv ER (Rd v) (K (nxt c, 3)) (vR0 (nxt c))
    ∗ cellInv ER (Rd v) (K (nxt c, 4)) (vR1 (nxt c))
    ∗ cellInv ER (Rd v) (K (prv c, 0)) (barCell (prv c))
    ∗ cellInv ER (Rd v) (K (prv c, 7)) (vL0 (prv c))
    ∗ cellInv ER (Rd v) (K (prv c, 8)) (vL1 (prv c)))

instance invs_pers (K : Dev nD × Fin 9 → ℕ) (c : Dev nD) : BI.Persistent (invs v K c) := by unfold invs; infer_instance

/-- What a device's body starts from. -/
def ghost (K : Dev nD × Fin 9 → ℕ) (c : Dev nD) : sProp 𝕄 := iprop(invs v K c ∗ reach c ∗ poss c ∗ payToks c ∗ quiet c)
def G' (c : Dev nD) : sProp 𝕄 := iprop(∃ K, ghost v K c)

theorem fund_ring : BI.own (ER (initOf ringCells ringToks)) ⊢ (|==> bigSep Finset.univ (G v) : sProp 𝕄) := by
  have hX (Φ : GSem nD τ sig → sProp 𝕄) : bigSep ringCells Φ = bigSep Finset.univ fun c : Dev nD => bigSep Finset.univ fun k : Fin 9 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks mint; rw [bigSep_univ_prod, bigSep_fin3, bigSep_opt, bigSep_opt, bigSep_opt]; rfl
  iintro HX
  imod (Rounds.fund ER (Rd v) ringCells ringToks) $$ HX with ⟨Hst, Hr, Hat, Htok⟩
  imodintro
  ihave Hst' := (Entails.of_eq (hX fun g => roundState ER (Rd v) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := ℕ) (Name := ℕ) (U := UU) (Lvl := ℕ) (Val := Elt F) (τ := τ) osem c : sProp 𝕄)
    = iprop(semVal ((c : Thread nD τ), .dma ⟨2, by decide⟩) 0 ∗ semVal ((c : Thread nD τ), .dma ⟨3, by decide⟩) 0 ∗ semVal ((c : Thread nD τ), .dma ⟨4, by decide⟩) 0 ∗ semVal ((c : Thread nD τ), .dma ⟨5, by decide⟩) 0 ∗ semVal ((c : Thread nD τ), .dma ⟨6, by decide⟩) 0 ∗ semVal ((c : Thread nD τ), .dma ⟨7, by decide⟩) 0 ∗ semVal ((c : Thread nD τ), .dma ⟨8, by decide⟩) 0 ∗ semVal ((c : Thread nD τ), .dma ⟨9, by decide⟩) 0 ∗ semVal ((c : Thread nD τ), .dma ⟨10, by decide⟩) 0 ∗ semVal ((c : Thread nD τ), .dma ⟨11, by decide⟩) 0 ∗ semVal ((c : Thread nD τ), .dma ⟨12, by decide⟩) 0 ∗ semVal ((c : Thread nD τ), .dma ⟨13, by decide⟩) 0) := by
  rw [Pipeline.ownSems0_eq_of_list c osem [0, 1, 2, 3, 4, 5, 6, 7, 8, 9, 10, 11] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All the semaphores at zero: the nine cells', and the four of local copies. -/
theorem sems_in (c : Dev nD) :
    iprop(Pipeline.ownSems0 (Ix := ℕ) (Name := ℕ) (U := UU) (Lvl := ℕ) (Val := Elt F) (τ := τ) osem c ∗ unscopedSems0 c)
      ⊢ iprop((bigSep Finset.univ fun k : Fin 9 => (semVal (kcell (c, k)) 0 : sProp 𝕄)) ∗ quiet c) := by
  rw [ownSems0_eq, unscopedSems0_eq, bigSep_fin9]
  unfold quiet
  iintro ⟨⟨Q0, Q1, Q2, Q3, H1, H2, H3, H4, H5, H6, H7, H8⟩, HB⟩
  isplitr [Q0 Q1 Q2 Q3]
  · isplitl [HB]; · iexact HB
    isplitl [H1]; · iexact H1
    isplitl [H2]; · iexact H2
    isplitl [H3]; · iexact H3
    isplitl [H4]; · iexact H4
    isplitl [H5]; · iexact H5
    isplitl [H6]; · iexact H6
    isplitl [H7] <;> iassumption
  isplitl [Q0]; · iexact Q0
  isplitl [Q1]; · iexact Q1
  isplitl [Q2] <;> iassumption

omit [FloatOps F] in
/-- And handed back when the body has run. -/
theorem sems_out (c : Dev nD) : iprop(sems (F := F) c ∗ quiet c)
    ⊢ iprop(unscopedSems0 c ∗ Pipeline.ownSems0 (Ix := ℕ) (Name := ℕ) (U := UU) (Lvl := ℕ) (Val := Elt F) (τ := τ) osem c) := by
  rw [ownSems0_eq, unscopedSems0_eq]
  unfold quiet sems
  iintro ⟨⟨HB, H1, H2, H3, H4, H5, H6, H7, H8⟩, Q0, Q1, Q2, Q3⟩
  isplitl [HB]; · iexact HB
  isplitl [Q0]; · iexact Q0
  isplitl [Q1]; · iexact Q1
  isplitl [Q2]; · iexact Q2
  isplitl [Q3]; · iexact Q3
  isplitl [H1]; · iexact H1
  isplitl [H2]; · iexact H2
  isplitl [H3]; · iexact H3
  isplitl [H4]; · iexact H4
  isplitl [H5]; · iexact H5
  isplitl [H6]; · iexact H6
  isplitl [H7] <;> iassumption

theorem core_alloc (c : Dev nD) :
    iprop(Pipeline.ownSems0 (Ix := ℕ) (Name := ℕ) (U := UU) (Lvl := ℕ) (Val := Elt F) (τ := τ) osem c ∗ unscopedSems0 c ∗ G v c)
      ⊢ |={Set.univ}=> iprop((bigSep Finset.univ fun k => iprop(∃ κ : ℕ, cellInv ER (Rd v) κ (kcell (c, k))))
          ∗ (bigSep Finset.univ fun k => iprop(atPos ER (kcell (c, k)) 0 ∅ 0 ∗ reached ER (kcell (c, k)) 0)) ∗ toks c ∗ quiet c) := by
  unfold G
  iintro ⟨Hos, Hus, Hst, Hat, Htok⟩
  ihave Hv := (sems_in (F := F) c) $$ [Hos Hus]
  · isplitl [Hos] <;> iassumption
  icases Hv with ⟨Hv, Hq⟩
  imod (show iprop((bigSep Finset.univ fun k : Fin 9 => semVal (kcell (c, k)) 0) ∗ bigSep Finset.univ fun k : Fin 9 => roundState ER (Rd v) (kcell (c, k)) 0)
      ⊢ (|={Set.univ}=> bigSep Finset.univ fun k => iprop(∃ κ : ℕ, cellInv ER (Rd v) κ (kcell (c, k))) : sProp 𝕄) from by
        rw [← bigSep_sep']
        exact (bigSep_mono fun k _ => (Rounds.body_intro ER (Rd v) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What every device may use: all the invariants, and that every cell has reached round 0. -/
def records (K : Dev nD × Fin 9 → ℕ) : sProp 𝕄 :=
  iprop((bigSep Finset.univ fun ck : Dev nD × Fin 9 => cellInv ER (Rd v) (K ck) (kcell ck))
    ∗ bigSep Finset.univ fun ck : Dev nD × Fin 9 => reached ER (kcell ck) 0)
instance records_pers (K : Dev nD × Fin 9 → ℕ) : BI.Persistent (records v K) := by unfold records; infer_instance

theorem rec_inv (K : Dev nD × Fin 9 → ℕ) (ck : Dev nD × Fin 9) : records v K ⊢ cellInv ER (Rd v) (K ck) (kcell ck) := by
  unfold records
  iintro ⟨#H, -⟩
  iapply (show (bigSep Finset.univ fun ck : Dev nD × Fin 9 => (cellInv ER (Rd v) (K ck) (kcell ck) : sProp 𝕄)) ⊢ cellInv ER (Rd v) (K ck) (kcell ck) from bigSep_elim (Finset.mem_univ ck))
  iexact H
theorem rec_reach (K : Dev nD × Fin 9 → ℕ) (ck : Dev nD × Fin 9) : records v K ⊢ reached ER (kcell ck) 0 := by
  unfold records
  iintro ⟨-, #H⟩
  iapply (show (bigSep Finset.univ fun ck : Dev nD × Fin 9 => (reached ER (kcell ck) 0 : sProp 𝕄)) ⊢ reached ER (kcell ck) 0 from bigSep_elim (Finset.mem_univ ck))
  iexact H

/-- What is a device's alone: its positions, the duties it pays, the semaphores of its local copies. -/
def linear (c : Dev nD) : sProp 𝕄 := iprop(poss (F := F) c ∗ payToks c ∗ quiet c)

theorem ghost_intro (K : Dev nD × Fin 9 → ℕ) (c : Dev nD) : iprop(records v K ∗ linear c) ⊢ G' v c := by
  unfold linear G' ghost invs reach
  iintro ⟨#HR, Hp, Ht, Hq⟩
  iexists K
  isplitr
  · skip
    isplitr; · iapply (rec_inv v K (c, 0)); iexact HR
    isplitr; · iapply (rec_inv v K (c, 1)); iexact HR
    isplitr; · iapply (rec_inv v K (c, 2)); iexact HR
    isplitr; · iapply (rec_inv v K (c, 3)); iexact HR
    isplitr; · iapply (rec_inv v K (c, 4)); iexact HR
    isplitr; · iapply (rec_inv v K (c, 5)); iexact HR
    isplitr; · iapply (rec_inv v K (c, 6)); iexact HR
    isplitr; · iapply (rec_inv v K (c, 7)); iexact HR
    isplitr; · iapply (rec_inv v K (c, 8)); iexact HR
    isplitr; · iapply (rec_inv v K (nxt c, 0)); iexact HR
    isplitr; · iapply (rec_inv v K (nxt c, 3)); iexact HR
    isplitr; · iapply (rec_inv v K (nxt c, 4)); iexact HR
    isplitr; · iapply (rec_inv v K (prv c, 0)); iexact HR
    isplitr; · iapply (rec_inv v K (prv c, 7)); iexact HR
    iapply (rec_inv v K (prv c, 8)); iexact HR
  isplitr
  · skip
    isplitr; · iapply (rec_reach v K (nxt c, 0)); iexact HR
    isplitr; · iapply (rec_reach v K (prv c, 0)); iexact HR
    isplitr; · iapply (rec_reach v K (c, 1)); iexact HR
    isplitr; · iapply (rec_reach v K (c, 2)); iexact HR
    isplitr; · iapply (rec_reach v K (c, 5)); iexact HR
    isplitr; · iapply (rec_reach v K (c, 6)); iexact HR
    isplitr; · iapply (rec_reach v K (nxt c, 3)); iexact HR
    isplitr; · iapply (rec_reach v K (nxt c, 4)); iexact HR
    isplitr; · iapply (rec_reach v K (prv c, 7)); iexact HR
    iapply (rec_reach v K (prv c, 8)); iexact HR
  isplitl [Hp]; · iexact Hp
  isplitl [Ht] <;> iassumption

omit [FloatOps F] in
theorem share_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem poss_eq (c : Dev nD) : (bigSep Finset.univ fun k : Fin 9 => (atPos ER (kcell (c, k)) 0 ∅ 0 : sProp 𝕄)) = poss c := by rw [bigSep_fin9]; rfl

theorem regroup :
    (bigSep Finset.univ fun c : Dev nD => iprop((bigSep Finset.univ fun k => iprop(∃ κ : ℕ, cellInv ER (Rd v) κ (kcell (c, k))))
          ∗ (bigSep Finset.univ fun k => iprop(atPos ER (kcell (c, k)) 0 ∅ 0 ∗ reached ER (kcell (c, k)) 0)) ∗ toks c ∗ quiet c) : sProp 𝕄)
      ⊢ bigSep Finset.univ (G' v) := by
  rw [bigSep_sep', bigSep_sep', bigSep_sep', ← bigSep_univ_prod (fun ck : Dev nD × Fin 9 => iprop(∃ κ : ℕ, cellInv ER (Rd v) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok, Hq⟩
  ihave HK := (BI.bigSep_exists_pi Finset.univ (fun (ck : Dev nD × Fin 9) (κ : ℕ) => (cellInv ER (Rd v) κ (kcell ck) : sProp 𝕄))) $$ HI
  icases HK with ⟨%K, #HI⟩
  ihave Htk := (toks_around (F := F)) $$ Htok
  iapply (share_records (R := records v K) fun c _ => ghost_intro v K c)
  isplitr
  · unfold records; isplitl; · iexact HI
    iexact HR
  · iapply (show iprop((bigSep Finset.univ fun c : Dev nD => bigSep Finset.univ fun k : Fin 9 => (atPos ER (kcell (c, k)) 0 ∅ 0 : sProp 𝕄))
          ∗ (bigSep Finset.univ fun c : Dev nD => payToks c) ∗ bigSep Finset.univ fun c : Dev nD => quiet c) ⊢ bigSep Finset.univ fun c : Dev nD => (linear c : sProp 𝕄) from by
        rw [← bigSep_sep', ← bigSep_sep']
        exact bigSep_mono fun c _ => show iprop((bigSep Finset.univ fun k : Fin 9 => (atPos ER (kcell (c, k)) 0 ∅ 0 : sProp 𝕄)) ∗ payToks c ∗ quiet c) ⊢ (linear c : sProp 𝕄) from Entails.of_eq (by unfold linear; rw [poss_eq]))
    isplitl [Hat]; · iexact Hat
    isplitl [Htk] <;> iassumption

/-- The step all devices take together: their semaphores become the ring's cells. -/
theorem glob : (bigSep Finset.univ fun c => iprop(Pipeline.ownSems0 (Ix := ℕ) (Name := ℕ) (U := UU) (Lvl := ℕ) (Val := Elt F) (τ := τ) osem c ∗ unscopedSems0 c ∗ G v c) : sProp 𝕄)
    ⊢ |={Set.univ}=> bigSep Finset.univ (G' v) :=
  ((bigSep_mono fun c _ => core_alloc v c).trans (bigSep_fupd _ _)).trans (BI.fupd_mono (regroup v))

theorem ctx_of (K : Dev nD × Fin 9 → ℕ) (c : Dev nD) : iprop(invs v K c ∗ levAts L lv) ⊢ ctx v K c := by
  unfold invs ctx
  iintro ⟨⟨#H0, #H1, #H2, #H3, #H4, #H5, #H6, #H7, #H8, #H9, #H10, #H11, #H12, #H13, #H14⟩, #HL⟩
  isplitr; · iexact H0
  isplitr; · iexact H1
  isplitr; · iexact H2
  isplitr; · iexact H3
  isplitr; · iexact H4
  isplitr; · iexact H5
  isplitr; · iexact H6
  isplitr; · iexact H7
  isplitr; · iexact H8
  isplitr; · iexact H9
  isplitr; · iexact H10
  isplitr; · iexact H11
  isplitr; · iexact H12
  isplitr; · iexact H13
  isplitr; · iexact H14
  iexact HL

/-! ## The credit -/

/-- What all devices together owe a cell, one payer per device: the tallies of one kind of cell, over any reordering of the devices. -/
theorem sum_tally (σ : Dev nD ≃ Dev nD) (s s' : SemLoc sig) (r n : ℕ) (c : Dev nD) (u : ℕ) :
    ∑ d : Dev nD, (tallyAt (((σ d : Dev nD) : Thread nD τ), s) r n : CellTallies nD τ sig ℕ) ((c : Thread nD τ), s') u = if s' = s ∧ u = r then n else 0 := by
  rw [Equiv.sum_comp σ (fun d : Dev nD => (tallyAt ((d : Thread nD τ), s) r n : CellTallies nD τ sig ℕ) ((c : Thread nD τ), s') u),
    Finset.sum_eq_single c]
  · rw [tallyAt_apply]
    by_cases h : s' = s ∧ u = r
    · rw [if_pos h, if_pos ⟨by rw [h.1], h.2⟩]
    · rw [if_neg h, if_neg (fun h' => h ⟨congrArg Prod.snd h'.1, h'.2⟩)]
  · intro d _ hd
    rw [tallyAt_apply, if_neg (fun h' => hd (congrArg (fun g : GSem nD τ sig => g.1.1) h'.1).symm)]
  · intro h; exact absurd (Finset.mem_univ c) h
theorem sum_nxt (s s' : SemLoc sig) (r n : ℕ) (c : Dev nD) (u : ℕ) :
    ∑ d : Dev nD, (tallyAt (((nxt d : Dev nD) : Thread nD τ), s) r n : CellTallies nD τ sig ℕ) ((c : Thread nD τ), s') u = if s' = s ∧ u = r then n else 0 := sum_tally ring s s' r n c u
theorem sum_prv (s s' : SemLoc sig) (r n : ℕ) (c : Dev nD) (u : ℕ) :
    ∑ d : Dev nD, (tallyAt (((prv d : Dev nD) : Thread nD τ), s) r n : CellTallies nD τ sig ℕ) ((c : Thread nD τ), s') u = if s' = s ∧ u = r then n else 0 := sum_tally ring.symm s s' r n c u

theorem owed_barCell (c : Dev nD) : (tallyOn (barCell c) (launchCredit (Pipeline.owing O0) 0 (barCell c)) : CellTallies nD τ sig ℕ)
    = tallyAt (barCell c) 0 2 + tallyAt (barCell c) 1 2 + tallyAt (barCell c) 2 2 := by
  unfold tallyAt
  rw [← tallyOn_add, ← tallyOn_add]
  refine congrArg _ (Finsupp.ext fun u => ?_)
  rw [Pipeline.launchCredit_owing]
  unfold O0 O1 O2 O3 O4 O5
  simp only [Pi.add_apply, Finsupp.add_apply, Finset.sum_add_distrib, sum_nxt, sum_prv, Finsupp.single_apply]
  simp (decide := true) only [true_and, false_and, if_false]
  rcases u with _ | _ | _ | u <;> simp
theorem owed_vR0 (c : Dev nD) : (tallyOn (vR0 c) (launchCredit (Pipeline.owing O0) 0 (vR0 c)) : CellTallies nD τ sig ℕ)
    = tallyAt (vR0 c) 0 N + tallyAt (vR0 c) 1 N + tallyAt (vR0 c) 2 N := by
  unfold tallyAt
  rw [← tallyOn_add, ← tallyOn_add]
  refine congrArg _ (Finsupp.ext fun u => ?_)
  rw [Pipeline.launchCredit_owing]
  unfold O0 O1 O2 O3 O4 O5
  simp only [Pi.add_apply, Finsupp.add_apply, Finset.sum_add_distrib, sum_nxt, sum_prv, Finsupp.single_apply]
  simp (decide := true) only [true_and, false_and, if_false]
  rcases u with _ | _ | _ | u <;> simp
theorem owed_vR1 (c : Dev nD) : (tallyOn (vR1 c) (launchCredit (Pipeline.owing O0) 0 (vR1 c)) : CellTallies nD τ sig ℕ)
    = tallyAt (vR1 c) 0 N + tallyAt (vR1 c) 1 N + tallyAt (vR1 c) 2 N := by
  unfold tallyAt
  rw [← tallyOn_add, ← tallyOn_add]
  refine congrArg _ (Finsupp.ext fun u => ?_)
  rw [Pipeline.launchCredit_owing]
  unfold O0 O1 O2 O3 O4 O5
  simp only [Pi.add_apply, Finsupp.add_apply, Finset.sum_add_distrib, sum_nxt, sum_prv, Finsupp.single_apply]
  simp (decide := true) only [true_and, false_and, if_false]
  rcases u with _ | _ | _ | u <;> simp
theorem owed_vL0 (c : Dev nD) : (tallyOn (vL0 c) (launchCredit (Pipeline.owing O0) 0 (vL0 c)) : CellTallies nD τ sig ℕ)
    = tallyAt (vL0 c) 0 N + tallyAt (vL0 c) 1 N + tallyAt (vL0 c) 2 N := by
  unfold tallyAt
  rw [← tallyOn_add, ← tallyOn_add]
  refine congrArg _ (Finsupp.ext fun u => ?_)
  rw [Pipeline.launchCredit_owing]
  unfold O0 O1 O2 O3 O4 O5
  simp only [Pi.add_apply, Finsupp.add_apply, Finset.sum_add_distrib, sum_nxt, sum_prv, Finsupp.single_apply]
  simp (decide := true) only [true_and, false_and, if_false]
  rcases u with _ | _ | _ | u <;> simp
theorem owed_vL1 (c : Dev nD) : (tallyOn (vL1 c) (launchCredit (Pipeline.owing O0) 0 (vL1 c)) : CellTallies nD τ sig ℕ)
    = tallyAt (vL1 c) 0 N + tallyAt (vL1 c) 1 N + tallyAt (vL1 c) 2 N := by
  unfold tallyAt
  rw [← tallyOn_add, ← tallyOn_add]
  refine congrArg _ (Finsupp.ext fun u => ?_)
  rw [Pipeline.launchCredit_owing]
  unfold O0 O1 O2 O3 O4 O5
  simp only [Pi.add_apply, Finsupp.add_apply, Finset.sum_add_distrib, sum_nxt, sum_prv, Finsupp.single_apply]
  simp (decide := true) only [true_and, false_and, if_false]
  rcases u with _ | _ | _ | u <;> simp

omit [FloatOps F] in
/-- The credit of a cell's three rounds, one by one. -/
theorem cred3 (a b d : CellTallies nD τ sig ℕ) : (cred (a + b + d) : sProp 𝕄) ⊢ iprop(cred a ∗ cred b ∗ cred d) := by
  iintro H
  ihave H' := (cred_add (a + b) d).1 $$ H
  icases H' with ⟨H1, H3⟩
  ihave H'' := (cred_add a b).1 $$ H1
  icases H'' with ⟨H1, H2⟩
  isplitl [H1]; · iexact H1
  isplitl [H2] <;> iassumption

omit [FloatOps F] in
theorem creds (c : Dev nD) : (Pipeline.launchCred O0 c : sProp 𝕄) ⊢ crd c := by
  unfold Pipeline.launchCred crd
  refine (bigSep_subset (Finset.subset_univ ([csem 0, csem 3, csem 4, csem 7, csem 8].toFinset))).trans ?_
  rw [bigSep_eq_bigSepL_of_eq [csem 0, csem 3, csem 4, csem 7, csem 8] rfl (by decide)]
  refine (show _ ⊢ iprop(cred (tallyOn (barCell c) (launchCredit (Pipeline.owing O0) 0 (barCell c))) ∗ cred (tallyOn (vR0 c) (launchCredit (Pipeline.owing O0) 0 (vR0 c)))
    ∗ cred (tallyOn (vR1 c) (launchCredit (Pipeline.owing O0) 0 (vR1 c))) ∗ cred (tallyOn (vL0 c) (launchCredit (Pipeline.owing O0) 0 (vL0 c)))
    ∗ cred (tallyOn (vL1 c) (launchCredit (Pipeline.owing O0) 0 (vL1 c)))) from .rfl).trans ?_
  rw [owed_barCell, owed_vR0, owed_vR1, owed_vL0, owed_vL1]
  iintro ⟨HB, H0, H1, H2, H3⟩
  ihave HB' := (cred3 _ _ _) $$ HB
  ihave H0' := (cred3 _ _ _) $$ H0
  ihave H1' := (cred3 _ _ _) $$ H1
  ihave H2' := (cred3 _ _ _) $$ H2
  ihave H3' := (cred3 _ _ _) $$ H3
  icases HB' with ⟨A0, B0, C0⟩
  icases H0' with ⟨A1, B1, C1⟩
  icases H1' with ⟨A2, B2, C2⟩
  icases H2' with ⟨A3, B3, C3⟩
  icases H3' with ⟨A4, B4, C4⟩
  isplitl [A0]; · iexact A0
  isplitl [A1]; · iexact A1
  isplitl [A2]; · iexact A2
  isplitl [A3]; · iexact A3
  isplitl [A4]; · iexact A4
  isplitl [B0]; · iexact B0
  isplitl [B1]; · iexact B1
  isplitl [B2]; · iexact B2
  isplitl [B3]; · iexact B3
  isplitl [B4]; · iexact B4
  isplitl [C0]; · iexact C0
  isplitl [C1]; · iexact C1
  isplitl [C2]; · iexact C2
  isplitl [C3]; · iexact C3
  iexact C4

end Cert.RingMlp

end
-- ==== Proof.Launch.lean ====
/-
# The run of the whole program
-/
module

public import proofs.«01_k».proof.Proof.Ghost
public import proofs.«01_k».proof.Proof.Gen.KernelIdeal.Points
public import Idealize.ShloMosaic.Lib.Pipeline.CollectiveSegs

@[expose] public section

noncomputable section

namespace Cert.RingMlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The values -/

section Values
variable (X : Dev nD → S1536x1536.Idx → Elt F .f32) (A1 : Dev nD → S1536x3072.Idx → Elt F .f32) (A2 : Dev nD → S3072x1536.Idx → Elt F .f32)

/-- What device `d` contributes to chunk `j`, right half and left half. -/
def contR (d j : Dev nD) : FVec F S192x1536 .f32 := pR (X d) (wV (A1 d)) (zV (A2 d)) j
def contL (d j : Dev nD) : FVec F S192x1536 .f32 := pL (X d) (wV (A1 d)) (zV (A2 d)) j
/-- What device `c` sends right at its `h`-th hop. -/
def streamR : ℕ → Dev nD → FVec F S192x1536 .bf16
  | 0, c => seedR (X c) (A1 c) (A2 c) c
  | 1, c => acc (contR X A1 A2 c (prv c)) (seedR (X (prv c)) (A1 (prv c)) (A2 (prv c)) (prv c))
  | _, c => acc (contR X A1 A2 c (prv (prv c))) (acc (contR X A1 A2 (prv c) (prv (prv c))) (seedR (X (prv (prv c))) (A1 (prv (prv c))) (A2 (prv (prv c))) (prv (prv c))))
def streamL : ℕ → Dev nD → FVec F S192x1536 .bf16
  | 0, c => seedL (X c) (A1 c) (A2 c) c
  | 1, c => acc (contL X A1 A2 c (nxt c)) (seedL (X (nxt c)) (A1 (nxt c)) (A2 (nxt c)) (nxt c))
  | _, c => acc (contL X A1 A2 c (nxt (nxt c))) (acc (contL X A1 A2 (nxt c) (nxt (nxt c))) (seedL (X (nxt (nxt c))) (A1 (nxt (nxt c))) (A2 (nxt (nxt c))) (nxt (nxt c))))
/-- The values of the ring: the streams, and each chunk's finished halves. -/
def vals : Vals F where
  sR := streamR X A1 A2
  sL := streamL X A1 A2
  gR j := acc (contR X A1 A2 (prv j) j) (streamR X A1 A2 2 (prv (prv j)))
  gL j := acc (contL X A1 A2 (nxt j) j) (streamL X A1 A2 2 (nxt (nxt j)))

theorem vals_good : Good (vals X A1 A2) X (fun c => wV (A1 c)) (fun c => zV (A2 c)) where
  r1 _ := rfl
  l1 _ := rfl
  r2 _ := rfl
  l2 _ := rfl
  r3 c := by
    show acc (contR X A1 A2 (prv (nxt c)) (nxt c)) (streamR X A1 A2 2 (prv (prv (nxt c)))) = _
    rw [prv_nxt]; rfl
  l3 c := by
    show acc (contL X A1 A2 (nxt (prv c)) (prv c)) (streamL X A1 A2 2 (nxt (nxt (prv c)))) = _
    rw [nxt_prv]; rfl
end Values

variable (m : (ℓ : Loc nD τ sig) → Buf (Elt F) ℓ) (ρ : Dev nD → PrngReg)

def s₀ : MemSt nD τ sig (Elt F) := ⟨m, fun _ => 0, ρ⟩
/-- The arguments, as each device holds them. -/
def xIn (c : Dev nD) : S1536x1536.Idx → Elt F .f32 := (win0_0.blk (0 : Fin 1)).view.read (Elt F) ((s₀ m ρ).mem ((c : Thread nD τ).loc main_arg0))
def w1In (c : Dev nD) : S1536x3072.Idx → Elt F .f32 := m ((c : Thread nD τ).loc main_arg1)
def w2In (c : Dev nD) : S3072x1536.Idx → Elt F .f32 := m ((c : Thread nD τ).loc main_arg2)
/-- The values of this run. -/
abbrev vv : Vals F := vals (xIn m ρ) (w1In m) (w2In m)

/-- The weights, where they lie. -/
def wts (c : Dev nD) : sProp 𝕄 :=
  iprop((((c : Thread nD τ).loc main_arg1) ↦{fullShare} m ((c : Thread nD τ).loc main_arg1)) ∗ (((c : Thread nD τ).loc main_arg2) ↦{fullShare} m ((c : Thread nD τ).loc main_arg2)))
/-- What a device's body starts from, but for its scratch memory and its staged argument. -/
def start (c : Dev nD) : sProp 𝕄 := iprop(G' (vv m ρ) c ∗ crd (F := F) c ∗ levAts L lv ∗ wts m c)
def Φ₀ (c : Dev nD) : sProp 𝕄 := iprop(start m ρ c ∗ scr (F := F) c)
def Φ₁ (c : Dev nD) : sProp 𝕄 := iprop(scr (F := F) c ∗ sems (F := F) c ∗ quiet c ∗ wts m c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xIn m ρ c
    | ⟨1, _⟩ => outV (vv m ρ)
  Φ t := match t with
    | ⟨0, _⟩ => Φ₀ m ρ c
    | ⟨_ + 1, _⟩ => Φ₁ m c
  q _ := fullShare
  owed t := match t with
    | ⟨0, _⟩ => O0 c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem at_x (c : Dev nD) (X : S1536x1536.Idx → Elt F .f32) : (at_ xM c X : sProp 𝕄) = (((c : Thread nD τ).loc cc0_stg0_0) ↦{fullShare} X) := by
  have h := pointsTo_rep (Ix := ℕ) (Name := ℕ) (U := UU) (Lvl := ℕ) (c : Thread nD τ) xM (X : Buf (Elt F) ((xM : Memref sig .tc .vmem S1536x1536 .f32).view.loc (c : Thread nD τ))) fullShare
  rw [show (xM : Memref sig .tc .vmem S1536x1536 .f32).view.read (Elt F) X = X from rfl] at h
  refine h.symm.trans ?_
  show (((c : Thread nD τ).loc cc0_stg0_0) ↦[(View.whole cc0_stg0_0).set]{fullShare} X : sProp 𝕄) = _
  rw [View.set_whole]
omit [FloatOps F] in
theorem heldH_1 (c : Dev nD) (f : Buf (Elt F) ((c : Thread nD τ).loc main_arg1)) : (heldH a1M c f : sProp 𝕄) = (((c : Thread nD τ).loc main_arg1) ↦{fullShare} f) := by
  show (((c : Thread nD τ).loc main_arg1) ↦[(View.whole main_arg1).set]{fullShare} f : sProp 𝕄) = _; rw [View.set_whole]
omit [FloatOps F] in
theorem heldH_2 (c : Dev nD) (f : Buf (Elt F) ((c : Thread nD τ).loc main_arg2)) : (heldH a2M c f : sProp 𝕄) = (((c : Thread nD τ).loc main_arg2) ↦{fullShare} f) := by
  show (((c : Thread nD τ).loc main_arg2) ↦[(View.whole main_arg2).set]{fullShare} f : sProp 𝕄) = _; rw [View.set_whole]

/-! ## The body -/

def bodyPre (c : Dev nD) : sProp 𝕄 :=
  iprop(Φ₀ m ρ c ∗ (dats m ρ 0 c).owesAt 0 t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt 0 t0_0.succ ∗ stg c cc0_stg0_0 (xIn m ρ c) ∗ stg c cc0_stg1_0 (outV (vv m ρ)))

set_option maxHeartbeats 1000000 in
theorem sound_body (c : Dev nD) :
    bodyPre m ρ c ⊢ wp frame (wpE (defs₀ (F := F)) 𝒱₀ (c : Thread nD τ) none) Set.univ (cc0_body (F := F) (Memref.whole cc0_stg0_0) (Memref.isWhole_whole _) (Memref.whole main_arg1) (Memref.isWhole_whole _) (Memref.whole main_arg2) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11) (fun _ => bodyPost m ρ c) := by
  unfold bodyPre Φ₀ start G' ghost
  iintro ⟨⟨⟨⟨%K, #HI, Hre, Hpo, Hpt, Hq⟩, Hcr, #Hlev, Hw⟩, Hscr⟩, Ho, ⟨%d0, %g0, %hg0, Hx⟩, ⟨%d1, %g1, %hg1, Hout⟩⟩
  have hx : g0 = xIn m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O0 c from rfl]
  ihave Hsl := (cut_scr (F := F) c) $$ Hscr
  ihave Hos := (cut_out (F := F) c) $$ [Hout]
  · iexists g1; iexact Hout
  ihave Hx' := (Entails.of_eq (at_x c (xIn m ρ c)).symm) $$ Hx
  unfold wts
  icases Hw with ⟨Hw1, Hw2⟩
  ihave Hw1' := (Entails.of_eq (heldH_1 c (m ((c : Thread nD τ).loc main_arg1))).symm) $$ Hw1
  ihave Hw2' := (Entails.of_eq (heldH_2 c (m ((c : Thread nD τ).loc main_arg2))).symm) $$ Hw2
  ihave #Hctx := (ctx_of (vv m ρ) K c) $$ [HI Hlev]
  · isplitr; · iexact HI
    iexact Hlev
  iapply (whole (vv m ρ) K c W (xIn m ρ) (fun c => wV (w1In m c)) (fun c => zV (w2In m c)) (m ((c : Thread nD τ).loc main_arg1)) (m ((c : Thread nD τ).loc main_arg2))
    (vals_good _ _ _) rfl rfl rfl rfl (fun _ => bodyPost m ρ c))
  isplitr; · iexact Hctx
  isplitl [Hre]; · iexact Hre
  isplitl [Hpo]; · iexact Hpo
  isplitl [Hpt]; · iexact Hpt
  isplitl [Hcr]; · iexact Hcr
  isplitl [Hos]; · iexact Hos
  isplitl [Hsl]; · iexact Hsl
  isplitl [Hx']; · iexact Hx'
  isplitl [Hw1']; · iexact Hw1'
  isplitl [Hw2']; · iexact Hw2'
  isplitl [Hq]; · iexact Hq
  isplitl [HO]; · iexact HO
  unfold bodyEnd
  iintro ⟨⟨%W', HO⟩, Hse, Hos, Hsl, Hx, Hw1, Hw2, Hq⟩
  ihave Hscr := (join_scr (F := F) c) $$ Hsl
  ihave Hout := (join_out (vv m ρ) c) $$ Hos
  ihave Hx' := (Entails.of_eq (at_x c (xIn m ρ c))) $$ Hx
  ihave Hw1' := (Entails.of_eq (heldH_1 c (m ((c : Thread nD τ).loc main_arg1)))) $$ Hw1
  ihave Hw2' := (Entails.of_eq (heldH_2 c (m ((c : Thread nD τ).loc main_arg2)))) $$ Hw2
  unfold bodyPost Φ₁ Dat.owesAt Pipeline.owesWithin wts
  rw [show (dats m ρ 0 c).owed t0_0.succ = 0 from rfl]
  isplitl [Hscr Hse Hq Hw1' Hw2']
  · isplitl [Hscr]; · iexact Hscr
    isplitl [Hse]; · iexact Hse
    isplitl [Hq]; · iexact Hq
    isplitl [Hw1'] <;> iassumption
  isplitl [HO]
  · iexists W'
    isplitr; · ipureintro; exact fun _ _ => Or.inl trivial
    iexact HO
  isplitl [Hx']
  · iexists _; isplitr; · (ipureintro; rfl)
    iexact Hx'
  iexists _; isplitr; · (ipureintro; rfl)
  iexact Hout

set_option maxRecDepth 8000 in
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  exact sound_body m ρ c

/-! ## The launch -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), (initOf ringCells ringToks, (1 : Counters)))

omit [FloatOps F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' (vv m ρ) c)
      ⊢ |={Set.univ}=> iprop(start m ρ c ∗ emp) := by
  rw [Pipeline.unscopedRestP_none, unscopedRest0_eq]
  iintro ⟨Hw, Hlev, Hcr, -, HG⟩
  ihave Hc := (creds (F := F) c) $$ Hcr
  imodintro
  unfold start wts
  isplitl
  · isplitl [HG]; · iexact HG
    isplitl [Hc]; · iexact Hc
    isplitl [Hlev]; · iexact Hlev
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop((unscopedSems0 c ∗ wts m c) ∗ Pipeline.ownSems0 osem c ∗ Pipeline.scopedRest cfg0.spec c) := by
  rw [show (dats m ρ 0 c).Φ (Fin.last cfg0.N) = Φ₁ m c from rfl, scopedRest0_eq]
  unfold Φ₁ scr
  iintro ⟨Hr, Hse, Hq, Hw⟩
  ihave H := (sems_out (F := F) c) $$ [Hse Hq]
  · isplitl [Hse] <;> iassumption
  icases H with ⟨Hu, Ho⟩
  isplitl [Hu Hw]
  · isplitl [Hu] <;> iassumption
  isplitl [Ho]; · iexact Ho
  iexact Hr

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · refine Above.mayWait (r := 0) (by decide) ?_
      fin_cases w <;> fin_cases s <;> exact above0 c
    · refine Above.mayWait (r := 0) (by decide) (Above.zero _)

/-! ## The run -/

def finalA (c : Dev nD) (w : Fin cfg0.W) : Buf (Elt F) ((cfg0.win w).arr.view.loc (c : Thread nD τ)) := (dats m ρ 0 c).arrAt w cfg0.N

omit [FloatOps F] in
/-- The counters and the weights, read off the last state. -/
theorem read_end (c : Dev nD) (s' : Phys nD τ sig (Elt F)) : iprop((unscopedSems0 c ∗ wts m c) ∗ emp ∗ SI s')
    ⊢ |={Set.univ}=> (iprop(⌜(∀ sm : SemLoc sig, sm.isScoped .tc = false → s'.mem.sem ((c.tc : Thread nD τ), sm) = 0)
        ∧ s'.mem.mem ((c : Thread nD τ).loc main_arg1) = m ((c : Thread nD τ).loc main_arg1) ∧ s'.mem.mem ((c : Thread nD τ).loc main_arg2) = m ((c : Thread nD τ).loc main_arg2)⌝ ∗ SI s') : sProp 𝕄) := by
  unfold wts
  iintro ⟨⟨Hu, Hw1, Hw2⟩, -, HSI⟩
  icombine HSI Hw1 gives %h1
  icombine HSI Hw2 gives %h2
  imod (Pipeline.unscopedSems0_read (X := unscopedSems0 c) (c := c) fupd_intro s') $$ [Hu HSI] with ⟨%h, HSI⟩
  · isplitl [Hu] <;> iassumption
  imodintro
  isplitr
  · ipureintro; exact ⟨h, Buf.eq_of_forall_mem_univ h1, Buf.eq_of_forall_mem_univ h2⟩
  iexact HSI

theorem flushed_eq (c : Dev nD) (t : Fin cfg0.N) : (dats m ρ 0 c).flushed 1 t = ((cfg0.win 1).blk t).view.read (Elt F) (outV (vv m ρ)) := by
  obtain rfl := fin_N0 t
  have ha : (dats m ρ 0 c).after 1 t0_0 = outV (vv m ρ) := by dsimp only [dats]
  unfold Pipeline.Dat.flushed
  rw [ha]
  funext i
  show outV (vv m ρ) _ = outV (vv m ρ) _
  congr 1
  funext a
  refine Fin.ext ?_
  fin_cases a
  · show (i 0).val = 0 * 1536 + 1 * (i 0).val
    omega
  · show (i 1).val = 0 * 1536 + 1 * (i 1).val
    omega

theorem cover (i : S1536x1536.Idx) : ∃ t : Fin cfg0.N, (cfg0.win 1).flush t = true ∧ i ∈ ((cfg0.win 1).blk t).view.set := by
  refine ⟨t0_0, rfl, ?_⟩
  show i ∈ ((View.whole main_v1).slice (win0_1.rect t0_0)).set
  rw [View.set_slice_whole, Rect.mem_set_unit]
  intro a
  have h0 : (i 0 : Nat) < 1536 := (i 0).isLt
  have h1 : (i 1 : Nat) < 1536 := (i 1).isLt
  have e : win0_1.index t0_0 0 * win0_1.size 0 = 0 ∧ win0_1.xsize (grid0.coords t0_0) 0 = 1536
      ∧ win0_1.index t0_0 1 * win0_1.size 1 = 0 ∧ win0_1.xsize (grid0.coords t0_0) 1 = 1536 := by decide +kernel
  match a with
  | ⟨0, _⟩ => show win0_1.index t0_0 0 * win0_1.size 0 ≤ (i 0 : Nat) ∧ (i 0 : Nat) < win0_1.index t0_0 0 * win0_1.size 0 + win0_1.xsize (grid0.coords t0_0) 0
              rw [e.1, e.2.1]; omega
  | ⟨1, _⟩ => show win0_1.index t0_0 1 * win0_1.size 1 ≤ (i 1 : Nat) ∧ (i 1 : Nat) < win0_1.index t0_0 1 * win0_1.size 1 + win0_1.xsize (grid0.coords t0_0) 1
              rw [e.2.2.1, e.2.2.2]; omega

theorem finalA_out (c : Dev nD) : finalA m ρ c (1 : Fin 2) = outV (vv m ρ) :=
  (dats m ρ 0 c).arrAt_eq_of_cover 1 (outV (vv m ρ)) (fun t _ => flushed_eq m ρ c t) cover
theorem finalA_x (c : Dev nD) : finalA m ρ c (0 : Fin 2) = (s₀ m ρ).mem (win0_0.arr.view.loc (c : Thread nD τ)) :=
  (dats (F := F) m ρ 0 c).arrAt_in (0 : Fin 2) rfl _

/-- What is so of the last state: the result on every device, the arguments as they were, the counters at zero. -/
def Done : PUnit × MemSt nD τ sig (Elt F) → Prop := fun r =>
  (∀ c : Dev nD, r.2.mem ((c : Thread nD τ).loc main_v1) = outV (vv m ρ)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0

set_option maxRecDepth 8000 in
/-- For any float values, from any memory with zero counters: the four devices' run ends, every device holding the whole result. -/
theorem run_main : θ_run defs (onTc (τ := τ) (main (F := F))) (s₀ m ρ) (Done m ρ) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O0) (howed₀ := fun _ => rfl) (howedN := fun _ => rfl)
    (L := L) (lv := lv) (hL := L_of_ne) (hwaits := waits m ρ)
    (G := G (vv m ρ)) (G' := G' (vv m ρ)) (u₀ := u₀)
    (hu₀ := by
      unfold u₀
      iintro Hu
      ihave H := (ownU_split (F := F) _ _) $$ Hu
      icases H with ⟨HP, HX⟩
      imod (fund_ring (vv m ρ)) $$ HX with HG
      imodintro
      isplitl [HP] <;> iassumption)
    (hglob := glob (vv m ρ))
    (hA := fun _ _ => rfl) (hpf := fun _ k => k.elim0)
    (X := start m ρ) (Y := fun c => iprop(unscopedSems0 c ∗ wts m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1) ∧ s.mem ((c : Thread nD τ).loc main_arg2) = m ((c : Thread nD τ).loc main_arg2))
    (hY := read_end m)
    (hQ := fun _ h hs => ⟨fun c => ⟨((h c).1 (1 : Fin 2)).trans (finalA_out m ρ c), ((h c).1 (0 : Fin 2)).trans (finalA_x m ρ c), (h c).2.2.2.1, (h c).2.2.2.2⟩,
      sem_eq_zero hs fun c => (h c).2.2.1⟩)

end Cert.RingMlp

end
-- ==== Proof.Frames.lean ====
/-
# The frames of the kernel

The kernel and its idealization are one text, so one run, over any float values, serves both: read at bit patterns it is the
kernel's, read at the extended reals the idealization's.
-/
module

public import proofs.«01_k».proof.Defs
public import proofs.«01_k».proof.Proof.Gen.Kernel
public import proofs.«01_k».proof.Proof.Launch

@[expose] public section

noncomputable section

namespace Cert.RingMlp

open Cert.KernelIdeal Cert.KernelIdeal.Gen
open Idealize.ShloMosaic Idealize.ShloMosaic.TcCoe Idealize.SL.Sem

theorem frame_ideal : Cert.quiescent_KernelIdeal := fun m ρ _ =>
  (θ_run Cert.KernelIdeal.defs _ _).mono (fun _ h => ⟨fun c => (h.1 c).2, h.2⟩) (run_main (F := Ideal) m ρ)

/-- What every run of the program ends with, short of its value. -/
theorem rest {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem (c.tc.loc main_arg0) = m (c.tc.loc main_arg0) ∧ r.2.mem (c.tc.loc main_arg1) = m (c.tc.loc main_arg1)
          ∧ r.2.mem (c.tc.loc main_arg2) = m (c.tc.loc main_arg2)) ∧ r.2.sem = fun _ => 0) :=
  (θ_run defs _ _).mono (fun _ h => ⟨fun c => (h.1 c).2, h.2⟩) (run_main m ρ)

/-- One text, one body table: label by label, the kernel's and its idealization's are the same. -/
theorem table_eq : Cert.Kernel.defs₀ (F := Bits) = Cert.KernelIdeal.defs₀ (F := Bits) := by
  unfold Cert.Kernel.defs₀ Cert.KernelIdeal.defs₀
  refine congrArg (Defs.onTc (Val := Elt Bits)) ?_
  funext l a
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) table_eq

theorem frame_kernel : Cert.quiescent_Kernel := by
  intro m ρ _
  rw [defs_eq]
  exact rest (F := Bits) m ρ

end Cert.RingMlp

end
-- ==== Proof.RefRun.lean ====
/-
# The reference's run

The reference is a straight line of host operations on one device. It runs to the end, leaves its arguments and every counter
as they were, and its last array holds the two products with the larger-of-it-and-zero between them, rounded once.
-/
module

public import proofs.«01_k».proof.Defs
public import proofs.«01_k».proof.Proof.Gen.ReferenceIdeal
public import Idealize.ShloMosaic.Lib.Claim
public import Idealize.ShloMosaic.Lib.StableHlo.Run

@[expose] public section

noncomputable section

namespace Cert.RingMlp.Whole

open Cert.ReferenceIdeal Cert.ReferenceIdeal.Gen
open Idealize.ShloMosaic Idealize.ShloMosaic.TcCoe Idealize.ShloMosaic.StableHlo Idealize.SL.Sem

variable {F : FTy → Type} [FloatOps F]

/-- The reference's value, of its three whole arrays. -/
def mlp (x : FVec F S1536x1536 .f32) (u : FVec F S1536x12288 .f32) (w : FVec F S12288x1536 .f32) : FVec F S1536x1536 .bf16 :=
  truncf .bf16 (Host.dotGeneral dot_S1536x12288_S12288x1536_S1536x1536_1_0_0_1_n_n none
    (maximumf (Host.dotGeneral dot_S1536x1536_S1536x12288_S1536x12288_1_0_0_1_n_n none x u)
      (broadcastInDim S1536x12288 ![] bcast_S_S1536x12288 (constant (F := F) S_ .f32 0x00000000#32))) w) bitsLt_bf16_f32

/-- The whole run, from any memory whose counters are at zero: the value stands in the last array, the arguments stay. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = mlp (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  hlo_run
  rfl

/-- The reference's frame: it declares no semaphore, so every counter is at zero throughout. -/
theorem frame : Cert.quiescent_ReferenceIdeal := fun m ρ _ =>
  (θ_run Cert.ReferenceIdeal.defs _ _).mono
    (fun r h => ⟨fun c => (h c).2, sem_eq_zero_of_no_sems (by decide) r.2⟩) (run_main (F := Ideal) m ρ)

end Cert.RingMlp.Whole

end
-- ==== Proof.Sums.lean ====
/-
# Products and their blocks over the extended reals

A matrix is read at two natural numbers, and is zero outside its extents. A product is then a sum over a range, and a range cut
into blocks of one length is the sum of its blocks: this is all that the blocked loading and the cut over devices ask for.
-/
module

public import proofs.«01_k».proof.Proof.Entry
public import Idealize.ShloMosaic.Lib.MatmulPlain
public import Idealize.ShloMosaic.Lib.StackMember
public import Idealize.ShloMosaic.Lib.ValueIdx
public import Idealize.ShloMosaic.Lib.ValueLayout
public import Idealize.ShloMosaic.Lib.Pipeline.Value
public import Idealize.ShloMosaic.Lib.Layout

@[expose] public section

noncomputable section

namespace Cert.RingMlp

open Cert.KernelIdeal Cert.KernelIdeal.Gen
open Idealize.ShloMosaic Idealize.ShloMosaic.TcCoe Idealize.ShloMosaic.ValueIdx
open scoped BigOperators

/-- A matrix at row `i` and column `j`. -/
def ent {m n : ℕ} (X : (⟨2, ![m, n]⟩ : Shape).Idx → EReal) (i j : ℕ) : EReal :=
  if h : i < m ∧ j < n then X (ix2 ⟨i, h.1⟩ ⟨j, h.2⟩) else 0

theorem ent_of {m n : ℕ} (X : (⟨2, ![m, n]⟩ : Shape).Idx → EReal) {i j : ℕ} (hi : i < m) (hj : j < n) : ent X i j = X (ix2 ⟨i, hi⟩ ⟨j, hj⟩) :=
  dif_pos ⟨hi, hj⟩

theorem ent_val {m n : ℕ} (X : (⟨2, ![m, n]⟩ : Shape).Idx → EReal) (a : Fin m) (b : Fin n) : ent X a.val b.val = X (ix2 a b) := ent_of X a.isLt b.isLt

/-- Two matrices that agree at an index, named by the coordinates. -/
theorem ent_eq {m n m' n' : ℕ} (X : (⟨2, ![m, n]⟩ : Shape).Idx → EReal) (Y : (⟨2, ![m', n']⟩ : Shape).Idx → EReal) {i j i' j' : ℕ}
    (hi : i < m) (hj : j < n) (hi' : i' < m') (hj' : j' < n') (h : X (ix2 ⟨i, hi⟩ ⟨j, hj⟩) = Y (ix2 ⟨i', hi'⟩ ⟨j', hj'⟩)) : ent X i j = ent Y i' j' := by
  rw [ent_of X hi hj, ent_of Y hi' hj', h]

/-- The rows and columns of a window. -/
theorem ent_window {m n p q o : ℕ} (X : (⟨2, ![m, n]⟩ : Shape).Idx → EReal) (h : ∀ a, (![o, 0] : Fin 2 → ℕ) a + (![p, q] : Fin 2 → ℕ) a ≤ (![m, n] : Fin 2 → ℕ) a)
    {i j : ℕ} (hi : i < p) (hj : j < q) : ent (m := p) (n := q) (VecWindow.window (s := ⟨2, ![m, n]⟩) X ![o, 0] ![p, q] h) i j = ent X (o + i) j := by
  have h0 : o + p ≤ m := h 0
  have h1 : 0 + q ≤ n := h 1
  refine ent_eq _ _ hi hj (by omega) (by omega) ?_
  show X _ = X _
  refine congrArg X (funext fun a => Fin.ext ?_)
  match a with
  | ⟨0, _⟩ => show o + 1 * i = o + i; omega
  | ⟨1, _⟩ => show 0 + 1 * j = j; omega

/-- The rows and columns of a slice. -/
theorem ent_slice {m n p q o u : ℕ} (X : (⟨2, ![m, n]⟩ : Shape).Idx → EReal) (h : (⟨2, ![m, n]⟩ : Shape).Slices ![o, u] ⟨2, ![p, q]⟩)
    (h0 : o + p ≤ m) (h1 : u + q ≤ n) {i j : ℕ} (hi : i < p) (hj : j < q) :
    ent (extractStridedSlice ⟨2, ![p, q]⟩ ![o, u] X h) i j = ent X (o + i) (u + j) := by
  refine ent_eq _ _ hi hj (by omega) (by omega) ?_
  refine extractStridedSlice_apply _ _ _ _ _ fun a => ?_
  match a with
  | ⟨0, _⟩ => rfl
  | ⟨1, _⟩ => rfl

/-- A product onto zero, read anywhere inside. -/
theorem ent_matmul {M K N : ℕ} {φ₁ φ₂ : FTy} (L : FVec Ideal ⟨2, ![M, K]⟩ φ₁) (R : FVec Ideal ⟨2, ![K, N]⟩ φ₂) {i j : ℕ} (hi : i < M) (hj : j < N) :
    ent (FloatOps.matmul (F := Ideal) (DotDims.plain M K N) none L R (constant ⟨2, ![M, N]⟩ .f32 0x00000000#32)) i j
      = ∑ k ∈ Finset.range K, ent (m := M) (n := K) L i k * ent (m := K) (n := N) R k j := by
  rw [ent_of _ hi hj, Ideal.matmul_plain_apply, Finset.sum_range]
  have e : (constant (F := Ideal) ⟨2, ![M, N]⟩ .f32 0x00000000#32 : FVec Ideal ⟨2, ![M, N]⟩ .f32) (ix2 ⟨i, hi⟩ ⟨j, hj⟩) = (0 : EReal) := Ideal.ofBits_zero_f32
  rw [e]
  refine (zero_add (M := EReal) _).trans (Finset.sum_congr rfl fun k _ => ?_)
  rw [ent_of L hi k.isLt, ent_of R k.isLt hj]

/-- The same of a host product. -/
theorem ent_dot {M K N : ℕ} {φ₁ φ₂ : FTy} (L : FVec Ideal ⟨2, ![M, K]⟩ φ₁) (R : FVec Ideal ⟨2, ![K, N]⟩ φ₂) {i j : ℕ} (hi : i < M) (hj : j < N) :
    ent (Host.dotGeneral (F := Ideal) (DotDims.plain M K N) none L R) i j
      = ∑ k ∈ Finset.range K, ent (m := M) (n := K) L i k * ent (m := K) (n := N) R k j := by
  rw [ent_of _ hi hj, StackMember.dotGeneral_plain_apply, Finset.sum_range]
  refine Finset.sum_congr rfl fun k _ => ?_
  rw [ent_of L hi k.isLt, ent_of R k.isLt hj]

/-- A range that grows by a block. -/
theorem sum_block (f : ℕ → EReal) (o b : ℕ) : ∑ k ∈ Finset.range (o + b), f k = ∑ k ∈ Finset.range o, f k + ∑ k ∈ Finset.range b, f (o + k) :=
  Finset.sum_range_add f o b

/-- The hidden activations of one row: a product, and the larger of it and zero. -/
def hid {q : ℕ} (X : S1536x1536.Idx → EReal) (A : (⟨2, ![1536, q]⟩ : Shape).Idx → EReal) (r t : ℕ) : EReal :=
  max (∑ k ∈ Finset.range 1536, ent (m := 1536) (n := 1536) X r k * ent A k t) 0

/-- Their product with the second weights. -/
def two (q : ℕ) (X : S1536x1536.Idx → EReal) (A : (⟨2, ![1536, q]⟩ : Shape).Idx → EReal) (B : (⟨2, ![q, 1536]⟩ : Shape).Idx → EReal) (r n : ℕ) : EReal :=
  ∑ t ∈ Finset.range q, hid X A r t * ent B t n

end Cert.RingMlp

end
-- ==== Proof.Value.lean ====
/-
# What the ring adds up

Over the extended reals the narrowings are the identity. The seed, summed block by block, is the whole product of its chunk; a
partial product is one device's; and what arrives at the end of a stream is the sum of the four devices' products, in one of the
orders in which the ring can add them.
-/
module

public import proofs.«01_k».proof.Proof.Sums
public import proofs.«01_k».proof.Proof.Launch

@[expose] public section

noncomputable section

namespace Cert.RingMlp

open Cert.KernelIdeal Cert.KernelIdeal.Gen
open Idealize.ShloMosaic Idealize.ShloMosaic.TcCoe Idealize.ShloMosaic.ValueIdx
open scoped BigOperators

/-! ## A partial product -/

theorem ent_part (X : S1536x1536.Idx → EReal) (A : S1536x3072.Idx → EReal) (B : S3072x1536.Idx → EReal) (o : ℕ)
    (h : ∀ a, (![o, 0] : Fin 2 → ℕ) a + S192x1536.size a ≤ S1536x1536.size a) {i j : ℕ} (hi : i < 192) (hj : j < 1536) :
    ent (m := 192) (n := 1536) (part (F := Ideal) X A B ![o, 0] h) i j = two 3072 X A B (o + i) j := by
  have e : part (F := Ideal) X A B ![o, 0] h
      = FloatOps.matmul (F := Ideal) (φ₁ := .bf16) (φ₂ := .bf16) (DotDims.plain 192 3072 1536) none
          (fun y : S192x3072.Idx => max (FloatOps.matmul (F := Ideal) (φ₁ := .bf16) (φ₂ := .bf16) (DotDims.plain 192 1536 3072) none
            (shapeCast S192x1536 (VecWindow.window X ![o, 0] S192x1536.size h) shapeCasts_S192x1536_S192x1536) A (constant ⟨2, ![192, 3072]⟩ .f32 0x00000000#32) y : EReal)
            (Ideal.ofBits .f32 0x00000000#32)) B (constant ⟨2, ![192, 1536]⟩ .f32 0x00000000#32) := rfl
  rw [e, ent_matmul _ _ hi hj]
  unfold two
  refine Finset.sum_congr rfl fun t ht => ?_
  have ht' : t < 3072 := Finset.mem_range.1 ht
  congr 1
  rw [ent_of _ hi ht']
  show max _ _ = max _ _
  rw [Ideal.ofBits_zero_f32]
  refine congrArg (max · (0 : EReal)) ?_
  refine (ent_of (m := 192) (n := 3072) _ hi ht').symm.trans ?_
  have w : (shapeCast S192x1536 (VecWindow.window X ![o, 0] S192x1536.size h : S192x1536.Idx → EReal) shapeCasts_S192x1536_S192x1536 : S192x1536.Idx → EReal)
      = VecWindow.window X ![o, 0] S192x1536.size h := shapeCast_self (s := S192x1536) _ _
  refine (ent_matmul _ _ hi ht').trans ?_
  rw [w]
  refine Finset.sum_congr rfl fun k hk => ?_
  rw [ent_window X h hi (Finset.mem_range.1 hk)]

/-! ## The seed -/

/-- One block's product in the first sum. -/
def prod1 (x : FVec Ideal S384x1536 .bf16) (A : S1536x3072.Idx → EReal) (o : ℕ) (h : ∀ a, (![o, 0] : Fin 2 → ℕ) a + S192x3072.size a ≤ S1536x3072.size a)
    (hs : S384x1536.Slices ![0, o] S384x192) : FVec Ideal S384x3072 .f32 :=
  matmul dot_S384x192_S192x3072_S384x3072_1_0_0_1_n_n none (extractStridedSlice S384x192 ![0, o] x hs)
    (truncf .bf16 (shapeCast S192x3072 (uns1 (blk1 (F := Ideal) A o h)) shapeCasts_S1x192x3072_S192x3072 : FVec Ideal S192x3072 .f32) bitsLt_bf16_f32)
    (constant S384x3072 .f32 0x00000000#32)

/-- One block's product in the second sum. -/
def prod2 (x : FVec Ideal S384x3072 .bf16) (A : S3072x1536.Idx → EReal) (o : ℕ) (h : ∀ a, (![o, 0] : Fin 2 → ℕ) a + S384x1536.size a ≤ S3072x1536.size a)
    (hs : S384x3072.Slices ![0, o] S384x384) : FVec Ideal S384x1536 .f32 :=
  matmul dot_S384x384_S384x1536_S384x1536_1_0_0_1_n_n none (extractStridedSlice S384x384 ![0, o] x hs)
    (truncf .bf16 (shapeCast S384x1536 (uns2 (blk2 (F := Ideal) A o h)) shapeCasts_S1x384x1536_S384x1536 : FVec Ideal S384x1536 .f32) bitsLt_bf16_f32)
    (constant S384x1536 .f32 0x00000000#32)

theorem ent_prod1 (x : FVec Ideal S384x1536 .bf16) (A : S1536x3072.Idx → EReal) (o : ℕ) (h) (hs) {i j : ℕ} (hi : i < 384) (hj : j < 3072) :
    ent (m := 384) (n := 3072) (prod1 x A o h hs) i j = ∑ k ∈ Finset.range 192, ent (m := 384) (n := 1536) x i (o + k) * ent (m := 1536) (n := 3072) A (o + k) j := by
  have hb : o + 192 ≤ 1536 := h 0
  have e : prod1 x A o h hs = FloatOps.matmul (F := Ideal) (φ₁ := .bf16) (φ₂ := .bf16) (DotDims.plain 384 192 3072) none (extractStridedSlice S384x192 ![0, o] x hs)
      (shapeCast S192x3072 (uns1 (blk1 (F := Ideal) A o h)) shapeCasts_S1x192x3072_S192x3072) (constant ⟨2, ![384, 3072]⟩ .f32 0x00000000#32) := rfl
  rw [e, ent_matmul _ _ hi hj]
  refine Finset.sum_congr rfl fun k hk => ?_
  have hk' : k < 192 := Finset.mem_range.1 hk
  rw [shapeCast_shapeCast, ent_window A h hk' hj]
  congr 1
  refine (ent_slice (m := 384) (n := 1536) (p := 384) (q := 192) (o := 0) (u := o) x hs (by omega) hb hi hk').trans ?_
  rw [Nat.zero_add]

theorem ent_prod2 (x : FVec Ideal S384x3072 .bf16) (A : S3072x1536.Idx → EReal) (o : ℕ) (h) (hs) {i j : ℕ} (hi : i < 384) (hj : j < 1536) :
    ent (m := 384) (n := 1536) (prod2 x A o h hs) i j = ∑ k ∈ Finset.range 384, ent (m := 384) (n := 3072) x i (o + k) * ent (m := 3072) (n := 1536) A (o + k) j := by
  have hb : o + 384 ≤ 3072 := h 0
  have e : prod2 x A o h hs = FloatOps.matmul (F := Ideal) (φ₁ := .bf16) (φ₂ := .bf16) (DotDims.plain 384 384 1536) none (extractStridedSlice S384x384 ![0, o] x hs)
      (shapeCast S384x1536 (uns2 (blk2 (F := Ideal) A o h)) shapeCasts_S1x384x1536_S384x1536) (constant ⟨2, ![384, 1536]⟩ .f32 0x00000000#32) := rfl
  rw [e, ent_matmul _ _ hi hj]
  refine Finset.sum_congr rfl fun k hk => ?_
  have hk' : k < 384 := Finset.mem_range.1 hk
  rw [shapeCast_shapeCast, ent_window A h hk' hj]
  congr 1
  refine (ent_slice (m := 384) (n := 3072) (p := 384) (q := 384) (o := 0) (u := o) x hs (by omega) hb hi hk').trans ?_
  rw [Nat.zero_add]

/-- A sum of matrices, read anywhere inside. -/
theorem ent_add {m n : ℕ} (X Y : FVec Ideal ⟨2, ![m, n]⟩ .f32) {i j : ℕ} (hi : i < m) (hj : j < n) :
    ent (m := m) (n := n) (addf X Y) i j = ent (m := m) (n := n) X i j + ent (m := m) (n := n) Y i j := by
  rw [ent_of _ hi hj, ent_of X hi hj, ent_of Y hi hj]; rfl

/-- The zero that a sum begins with. -/
theorem ent_zero {m n : ℕ} {i j : ℕ} (hi : i < m) (hj : j < n) :
    ent (m := m) (n := n) (broadcast ⟨2, ![m, n]⟩ (Scalar.ofBits (F := Ideal) .f32 0x00000000#32)) i j = 0 := by
  rw [ent_of _ hi hj]; exact Ideal.ofBits_zero_f32

/-- The first sum, block by block. -/
def sum1 (x : FVec Ideal S384x1536 .bf16) (A : S1536x3072.Idx → EReal) : FVec Ideal S384x3072 .f32 :=
  addf (addf (addf (addf (addf (addf (addf (addf (broadcast S384x3072 (Scalar.ofBits (F := Ideal) .f32 0x00000000#32))
    (prod1 x A 0 inb_S1536x3072_S192x3072_0_0 slices_S384x1536_o0_0_S384x192))
    (prod1 x A 192 inb_S1536x3072_S192x3072_192_0 slices_S384x1536_o0_192_S384x192))
    (prod1 x A 384 inb_S1536x3072_S192x3072_384_0 slices_S384x1536_o0_384_S384x192))
    (prod1 x A 576 inb_S1536x3072_S192x3072_576_0 slices_S384x1536_o0_576_S384x192))
    (prod1 x A 768 inb_S1536x3072_S192x3072_768_0 slices_S384x1536_o0_768_S384x192))
    (prod1 x A 960 inb_S1536x3072_S192x3072_960_0 slices_S384x1536_o0_960_S384x192))
    (prod1 x A 1152 inb_S1536x3072_S192x3072_1152_0 slices_S384x1536_o0_1152_S384x192))
    (prod1 x A 1344 inb_S1536x3072_S192x3072_1344_0 slices_S384x1536_o0_1344_S384x192)

/-- The second sum, block by block. -/
def sum2 (x : FVec Ideal S384x3072 .bf16) (A : S3072x1536.Idx → EReal) : FVec Ideal S384x1536 .f32 :=
  addf (addf (addf (addf (addf (addf (addf (addf (broadcast S384x1536 (Scalar.ofBits (F := Ideal) .f32 0x00000000#32))
    (prod2 x A 0 inb_S3072x1536_S384x1536_0_0 slices_S384x3072_o0_0_S384x384))
    (prod2 x A 384 inb_S3072x1536_S384x1536_384_0 slices_S384x3072_o0_384_S384x384))
    (prod2 x A 768 inb_S3072x1536_S384x1536_768_0 slices_S384x3072_o0_768_S384x384))
    (prod2 x A 1152 inb_S3072x1536_S384x1536_1152_0 slices_S384x3072_o0_1152_S384x384))
    (prod2 x A 1536 inb_S3072x1536_S384x1536_1536_0 slices_S384x3072_o0_1536_S384x384))
    (prod2 x A 1920 inb_S3072x1536_S384x1536_1920_0 slices_S384x3072_o0_1920_S384x384))
    (prod2 x A 2304 inb_S3072x1536_S384x1536_2304_0 slices_S384x3072_o0_2304_S384x384))
    (prod2 x A 2688 inb_S3072x1536_S384x1536_2688_0 slices_S384x3072_o0_2688_S384x384)

/-- Eight blocks of one length, added to zero from the left, are the sum over all of them. -/
theorem eight (f : ℕ → EReal) (b : ℕ) : 0 + ∑ k ∈ Finset.range b, f (0 + k) + ∑ k ∈ Finset.range b, f (b + k) + ∑ k ∈ Finset.range b, f (2 * b + k)
    + ∑ k ∈ Finset.range b, f (3 * b + k) + ∑ k ∈ Finset.range b, f (4 * b + k) + ∑ k ∈ Finset.range b, f (5 * b + k) + ∑ k ∈ Finset.range b, f (6 * b + k)
    + ∑ k ∈ Finset.range b, f (7 * b + k) = ∑ k ∈ Finset.range (8 * b), f k := by
  rw [show 8 * b = b + b + b + b + b + b + b + b by ring]
  simp only [sum_block, zero_add]
  rw [show 2 * b = b + b by ring, show 3 * b = b + b + b by ring, show 4 * b = b + b + b + b by ring, show 5 * b = b + b + b + b + b by ring,
    show 6 * b = b + b + b + b + b + b by ring, show 7 * b = b + b + b + b + b + b + b by ring]

theorem ent_sum1 (x : FVec Ideal S384x1536 .bf16) (A : S1536x3072.Idx → EReal) {i j : ℕ} (hi : i < 384) (hj : j < 3072) :
    ent (m := 384) (n := 3072) (sum1 x A) i j = ∑ k ∈ Finset.range 1536, ent (m := 384) (n := 1536) x i k * ent (m := 1536) (n := 3072) A k j := by
  unfold sum1
  refine Eq.trans ?_ (eight (fun k => ent (m := 384) (n := 1536) x i k * ent (m := 1536) (n := 3072) A k j) 192)
  simp only [ent_add _ _ hi hj]
  rw [ent_prod1 _ _ _ _ _ hi hj, ent_prod1 _ _ _ _ _ hi hj, ent_prod1 _ _ _ _ _ hi hj, ent_prod1 _ _ _ _ _ hi hj, ent_prod1 _ _ _ _ _ hi hj,
    ent_prod1 _ _ _ _ _ hi hj, ent_prod1 _ _ _ _ _ hi hj, ent_prod1 _ _ _ _ _ hi hj]
  refine congrArg (· + _ + _ + _ + _ + _ + _ + _ + _) ?_
  exact ent_zero hi hj

theorem ent_sum2 (x : FVec Ideal S384x3072 .bf16) (A : S3072x1536.Idx → EReal) {i j : ℕ} (hi : i < 384) (hj : j < 1536) :
    ent (m := 384) (n := 1536) (sum2 x A) i j = ∑ k ∈ Finset.range 3072, ent (m := 384) (n := 3072) x i k * ent (m := 3072) (n := 1536) A k j := by
  unfold sum2
  refine Eq.trans ?_ (eight (fun k => ent (m := 384) (n := 3072) x i k * ent (m := 3072) (n := 1536) A k j) 384)
  simp only [ent_add _ _ hi hj]
  rw [ent_prod2 _ _ _ _ _ hi hj, ent_prod2 _ _ _ _ _ hi hj, ent_prod2 _ _ _ _ _ hi hj, ent_prod2 _ _ _ _ _ hi hj, ent_prod2 _ _ _ _ _ hi hj,
    ent_prod2 _ _ _ _ _ hi hj, ent_prod2 _ _ _ _ _ hi hj, ent_prod2 _ _ _ _ _ hi hj]
  refine congrArg (· + _ + _ + _ + _ + _ + _ + _ + _) ?_
  exact ent_zero hi hj

theorem hSeed_eq (x : FVec Ideal S384x1536 .bf16) (A : S1536x3072.Idx → EReal) :
    hSeed (F := Ideal) x A = fun y => max (sum1 x A y : EReal) (Ideal.ofBits .f32 0x00000000#32) := rfl

theorem pSeed_eq (x : FVec Ideal S384x3072 .bf16) (A : S3072x1536.Idx → EReal) :
    k0_pay48 (F := Ideal) x (pSeed (F := Ideal) x A) (k0_pay43 (b2_2304 (F := Ideal) A)) (b2_2688 (F := Ideal) A) = sum2 x A := rfl

/-- The own chunk's whole product. -/
theorem ent_seed (X : S1536x1536.Idx → EReal) (A : S1536x3072.Idx → EReal) (B : S3072x1536.Idx → EReal) (c : Dev nD) {i j : ℕ} (hi : i < 384) (hj : j < 1536) :
    ent (m := 384) (n := 1536) (sum2 (hSeed (F := Ideal) (xSeed (F := Ideal) X c) A) B) i j = two 3072 X A B (384 * c.val + i) j := by
  rw [ent_sum2 _ _ hi hj]
  unfold two
  refine Finset.sum_congr rfl fun t ht => ?_
  have ht' : t < 3072 := Finset.mem_range.1 ht
  refine congrArg (· * ent (m := 3072) (n := 1536) B t j) ?_
  rw [hSeed_eq, ent_of _ hi ht']
  show max _ _ = max _ _
  rw [Ideal.ofBits_zero_f32]
  refine congrArg (max · (0 : EReal)) ?_
  refine (ent_of (m := 384) (n := 3072) (sum1 _ A) hi ht').symm.trans ?_
  rw [ent_sum1 _ _ hi ht']
  refine Finset.sum_congr rfl fun k hk => ?_
  have hk' : k < 1536 := Finset.mem_range.1 hk
  refine congrArg (· * ent (m := 1536) (n := 3072) A k t) ?_
  have e : xSeed (F := Ideal) X c = VecWindow.window X (k0_off1 c) S384x1536.size (k0_off1_inb c) := by
    have e' : xSeed (F := Ideal) X c = shapeCast S384x1536 (VecWindow.window X (k0_off1 c) S384x1536.size (k0_off1_inb c) : S384x1536.Idx → EReal) shapeCasts_S384x1536_S384x1536 := rfl
    exact e'.trans (shapeCast_self (s := S384x1536) _ _)
  rw [e]
  have w : ∀ (o : Fin 2 → ℕ) (h : ∀ a, o a + S384x1536.size a ≤ S1536x1536.size a), o = ![384 * c.val, 0]
      → ent (m := 384) (n := 1536) (VecWindow.window X o S384x1536.size h) i k = ent (m := 1536) (n := 1536) X (384 * c.val + i) k := by
    rintro o h rfl
    exact ent_window X h hi hk'
  exact w _ _ (off1_eq c)

theorem ent_seedR (X : S1536x1536.Idx → EReal) (A : S1536x3072.Idx → EReal) (B : S3072x1536.Idx → EReal) (c : Dev nD) {i j : ℕ} (hi : i < 192) (hj : j < 1536) :
    ent (m := 192) (n := 1536) (seedR (F := Ideal) X A B c) i j = two 3072 X A B (384 * c.val + i) j := by
  have e : seedR (F := Ideal) X A B c = extractStridedSlice S192x1536 ![0, 0] (sum2 (hSeed (F := Ideal) (xSeed (F := Ideal) X c) A) B) slices_S384x1536_o0_0_S192x1536 := by
    unfold seedR
    generalize hSeed (F := Ideal) (xSeed (F := Ideal) X c) A = h
    rw [← pSeed_eq]
    unfold k0_pay49
    generalize k0_pay48 (F := Ideal) h (pSeed (F := Ideal) h B) (k0_pay43 (b2_2304 (F := Ideal) B)) (b2_2688 (F := Ideal) B) = w
    exact shapeCast_shapeCast _ _ _
  rw [e]
  refine (ent_slice (m := 384) (n := 1536) (p := 192) (q := 1536) (o := 0) (u := 0) _ _ (by omega) (by omega) hi hj).trans ?_
  rw [Nat.zero_add, Nat.zero_add, ent_seed X A B c (by omega) hj]

theorem ent_seedL (X : S1536x1536.Idx → EReal) (A : S1536x3072.Idx → EReal) (B : S3072x1536.Idx → EReal) (c : Dev nD) {i j : ℕ} (hi : i < 192) (hj : j < 1536) :
    ent (m := 192) (n := 1536) (seedL (F := Ideal) X A B c) i j = two 3072 X A B (384 * c.val + 192 + i) j := by
  have e : seedL (F := Ideal) X A B c = extractStridedSlice S192x1536 ![192, 0] (sum2 (hSeed (F := Ideal) (xSeed (F := Ideal) X c) A) B) slices_S384x1536_o192_0_S192x1536 := by
    unfold seedL
    generalize hSeed (F := Ideal) (xSeed (F := Ideal) X c) A = h
    rw [← pSeed_eq]
    unfold k0_pay50
    generalize k0_pay48 (F := Ideal) h (pSeed (F := Ideal) h B) (k0_pay43 (b2_2304 (F := Ideal) B)) (b2_2688 (F := Ideal) B) = w
    exact shapeCast_shapeCast _ _ _
  rw [e]
  refine (ent_slice (m := 384) (n := 1536) (p := 192) (q := 1536) (o := 192) (u := 0) _ _ (by omega) (by omega) hi hj).trans ?_
  rw [Nat.zero_add, ent_seed X A B c (by omega) hj, Nat.add_assoc]

/-! ## The streams -/

theorem ent_acc (p : FVec Ideal S192x1536 .f32) (Y : FVec Ideal S192x1536 .bf16) {i j : ℕ} (hi : i < 192) (hj : j < 1536) :
    ent (m := 192) (n := 1536) (acc (F := Ideal) p Y) i j = ent (m := 192) (n := 1536) Y i j + ent (m := 192) (n := 1536) p i j := by
  have e : acc (F := Ideal) p Y = fun y => (shapeCast S192x1536 (uns Y) shapeCasts_S1x192x1536_S192x1536 y + p y : EReal) := rfl
  rw [e, shapeCast_shapeCast, ent_of _ hi hj, ent_of _ hi hj, ent_of _ hi hj]

section Ring
variable (X : Dev nD → S1536x1536.Idx → EReal) (A : Dev nD → S1536x3072.Idx → EReal) (B : Dev nD → S3072x1536.Idx → EReal)

theorem ent_contR (d j : Dev nD) {i n : ℕ} (hi : i < 192) (hn : n < 1536) :
    ent (m := 192) (n := 1536) (contR (F := Ideal) X A B d j) i n = two 3072 (X d) (A d) (B d) (384 * j.val + i) n := ent_part (X d) (A d) (B d) _ _ hi hn
theorem ent_contL (d j : Dev nD) {i n : ℕ} (hi : i < 192) (hn : n < 1536) :
    ent (m := 192) (n := 1536) (contL (F := Ideal) X A B d j) i n = two 3072 (X d) (A d) (B d) (384 * j.val + 192 + i) n := ent_part (X d) (A d) (B d) _ _ hi hn

/-- Any four devices in the order of the ring, either way round, are all of them. -/
theorem round_prv (f : Dev nD → EReal) (j : Dev nD) : f (prv (prv (prv (prv j)))) + f (prv (prv (prv j))) + f (prv (prv j)) + f (prv j) = ∑ e : Fin 4, f e := by
  rw [Fin.sum_univ_four]
  fin_cases j
  · show f 0 + f 1 + f 2 + f 3 = _; rfl
  · show f 1 + f 2 + f 3 + f 0 = _; abel
  · show f 2 + f 3 + f 0 + f 1 = _; abel
  · show f 3 + f 0 + f 1 + f 2 = _; abel
theorem round_nxt (f : Dev nD → EReal) (j : Dev nD) : f (nxt (nxt (nxt (nxt j)))) + f (nxt (nxt (nxt j))) + f (nxt (nxt j)) + f (nxt j) = ∑ e : Fin 4, f e := by
  rw [Fin.sum_univ_four]
  fin_cases j
  · show f 0 + f 3 + f 2 + f 1 = _; abel
  · show f 1 + f 0 + f 3 + f 2 = _; abel
  · show f 2 + f 1 + f 0 + f 3 = _; abel
  · show f 3 + f 2 + f 1 + f 0 = _; abel

theorem prv4 (j : Dev nD) : prv (prv (prv (prv j))) = j := by revert j; decide
theorem nxt4 (j : Dev nD) : nxt (nxt (nxt (nxt j))) = j := by revert j; decide

theorem ent_gR (j : Dev nD) {i n : ℕ} (hi : i < 192) (hn : n < 1536) :
    ent (m := 192) (n := 1536) ((vals (F := Ideal) X A B).gR j) i n = ∑ e : Fin 4, two 3072 (X e) (A e) (B e) (384 * j.val + i) n := by
  rw [← round_prv (fun e => two 3072 (X e) (A e) (B e) (384 * j.val + i) n) j]
  have e : (vals (F := Ideal) X A B).gR j = acc (contR X A B (prv j) j) (acc (contR X A B (prv (prv j)) (prv (prv (prv (prv j)))))
      (acc (contR X A B (prv (prv (prv j))) (prv (prv (prv (prv j))))) (seedR (X (prv (prv (prv (prv j))))) (A (prv (prv (prv (prv j))))) (B (prv (prv (prv (prv j))))) (prv (prv (prv (prv j))))))) := rfl
  rw [e, ent_acc _ _ hi hn, ent_acc _ _ hi hn, ent_acc _ _ hi hn, ent_contR X A B _ _ hi hn, ent_contR X A B _ _ hi hn, ent_contR X A B _ _ hi hn, ent_seedR _ _ _ _ hi hn]
  rw [prv4]

theorem ent_gL (j : Dev nD) {i n : ℕ} (hi : i < 192) (hn : n < 1536) :
    ent (m := 192) (n := 1536) ((vals (F := Ideal) X A B).gL j) i n = ∑ e : Fin 4, two 3072 (X e) (A e) (B e) (384 * j.val + 192 + i) n := by
  rw [← round_nxt (fun e => two 3072 (X e) (A e) (B e) (384 * j.val + 192 + i) n) j]
  have e : (vals (F := Ideal) X A B).gL j = acc (contL X A B (nxt j) j) (acc (contL X A B (nxt (nxt j)) (nxt (nxt (nxt (nxt j)))))
      (acc (contL X A B (nxt (nxt (nxt j))) (nxt (nxt (nxt (nxt j))))) (seedL (X (nxt (nxt (nxt (nxt j))))) (A (nxt (nxt (nxt (nxt j))))) (B (nxt (nxt (nxt (nxt j))))) (nxt (nxt (nxt (nxt j))))))) := rfl
  rw [e, ent_acc _ _ hi hn, ent_acc _ _ hi hn, ent_acc _ _ hi hn, ent_contL X A B _ _ hi hn, ent_contL X A B _ _ hi hn, ent_contL X A B _ _ hi hn, ent_seedL _ _ _ _ hi hn]
  rw [nxt4]

/-- The result, anywhere: the four devices' products, added up. -/
theorem ent_out {r n : ℕ} (hr : r < 1536) (hn : n < 1536) :
    ent (m := 1536) (n := 1536) (outV (vals (F := Ideal) X A B)) r n = ∑ e : Fin 4, two 3072 (X e) (A e) (B e) r n := by
  have hi : r % 192 < 192 := Nat.mod_lt _ (by omega)
  have hj : r / 384 < 4 := by omega
  have hin : inRg (ix2 (n0 := 1536) (n1 := 1536) ⟨r, hr⟩ ⟨n, hn⟩) = ix2 ⟨r % 192, hi⟩ ⟨n, hn⟩ := by
    funext a
    match a with
    | ⟨0, _⟩ => rfl
    | ⟨1, _⟩ => rfl
  rw [ent_of _ hr hn]
  unfold outV
  by_cases hh : r % 384 < 192
  · rw [if_pos (show ((ix2 (n0 := 1536) (n1 := 1536) ⟨r, hr⟩ ⟨n, hn⟩) 0).val % 384 < 192 from hh), hin]
    have g := ent_gR X A B (⟨r / 384, hj⟩ : Dev nD) hi hn
    rw [ent_of _ hi hn, show 384 * (⟨r / 384, hj⟩ : Dev nD).val + r % 192 = r by show 384 * (r / 384) + r % 192 = r; omega] at g
    exact g
  · rw [if_neg (show ¬ ((ix2 (n0 := 1536) (n1 := 1536) ⟨r, hr⟩ ⟨n, hn⟩) 0).val % 384 < 192 from hh), hin]
    have g := ent_gL X A B (⟨r / 384, hj⟩ : Dev nD) hi hn
    rw [ent_of _ hi hn, show 384 * (⟨r / 384, hj⟩ : Dev nD).val + 192 + r % 192 = r by show 384 * (r / 384) + 192 + r % 192 = r; omega] at g
    exact g

end Ring

end Cert.RingMlp

end
-- ==== Proof.Same.lean ====
/-
# The same numbers

The kernel's result, a sum over the four devices of products over a quarter of the hidden columns, is the reference's product over
all of them: the sum over the hidden columns is cut into four runs.
-/
module

public import proofs.«01_k».proof.Defs
public import proofs.«01_k».proof.Proof.Value
public import proofs.«01_k».proof.Proof.RefRun

@[expose] public section

noncomputable section

namespace Cert.RingMlp

open Idealize.ShloMosaic Idealize.ShloMosaic.TcCoe Idealize.ShloMosaic.ValueIdx
open Cert.KernelIdeal Cert.KernelIdeal.Gen
open scoped BigOperators

/-- The reference's result, anywhere. -/
theorem ent_mlp (x : S1536x1536.Idx → EReal) (u : (⟨2, ![1536, 12288]⟩ : Shape).Idx → EReal) (w : (⟨2, ![12288, 1536]⟩ : Shape).Idx → EReal) {r n : ℕ}
    (hr : r < 1536) (hn : n < 1536) : ent (m := 1536) (n := 1536) (Whole.mlp (F := Ideal) x u w) r n = two 12288 x u w r n := by
  have e : Whole.mlp (F := Ideal) x u w = Host.dotGeneral (F := Ideal) (φ₁ := .f32) (φ₂ := .f32) (DotDims.plain 1536 12288 1536) none
      (fun y : (⟨2, ![1536, 12288]⟩ : Shape).Idx => max (Host.dotGeneral (F := Ideal) (φ₁ := .f32) (φ₂ := .f32) (DotDims.plain 1536 1536 12288) none x u y : EReal)
        (Ideal.ofBits .f32 0x00000000#32)) w := rfl
  rw [e, ent_dot _ _ hr hn]
  unfold two
  refine Finset.sum_congr rfl fun t ht => ?_
  have ht' : t < 12288 := Finset.mem_range.1 ht
  refine congrArg (· * ent (m := 12288) (n := 1536) w t n) ?_
  rw [ent_of _ hr ht']
  show max _ _ = max _ _
  rw [Ideal.ofBits_zero_f32]
  refine congrArg (max · (0 : EReal)) ?_
  refine (ent_of (m := 1536) (n := 12288) _ hr ht').symm.trans ?_
  exact ent_dot _ _ hr ht'

/-- One device's share of the columns. -/
theorem ent_cols (u : (⟨2, ![1536, 12288]⟩ : Shape).Idx → EReal) (h : Layout.Tiles ⟨2, ![1536, 3072]⟩ ⟨2, ![1536, 12288]⟩ 1 4) (e : Fin 4) {i j : ℕ}
    (hi : i < 1536) (hj : j < 3072) :
    ent (m := 1536) (n := 3072) (Layout.block ⟨2, ![1536, 3072]⟩ ⟨2, ![1536, 12288]⟩ 1 4 e u h) i j = ent (m := 1536) (n := 12288) u i (3072 * e.val + j) := by
  refine ent_eq _ _ hi hj hi (by have := e.isLt; omega) ?_
  rw [Layout.block_apply]
  refine congrArg u (funext fun a => Fin.ext ?_)
  match a with
  | ⟨0, _⟩ => rfl
  | ⟨1, _⟩ => exact congrArg (· + j) (Nat.mul_comm e.val 3072)

/-- One device's share of the rows. -/
theorem ent_rows (w : (⟨2, ![12288, 1536]⟩ : Shape).Idx → EReal) (h : Layout.Tiles ⟨2, ![3072, 1536]⟩ ⟨2, ![12288, 1536]⟩ 0 4) (e : Fin 4) {i j : ℕ}
    (hi : i < 3072) (hj : j < 1536) :
    ent (m := 3072) (n := 1536) (Layout.block ⟨2, ![3072, 1536]⟩ ⟨2, ![12288, 1536]⟩ 0 4 e w h) i j = ent (m := 12288) (n := 1536) w (3072 * e.val + i) j := by
  refine ent_eq _ _ hi hj (by have := e.isLt; omega) hj ?_
  rw [Layout.block_apply]
  refine congrArg w (funext fun a => Fin.ext ?_)
  match a with
  | ⟨0, _⟩ => exact congrArg (· + i) (Nat.mul_comm e.val 3072)
  | ⟨1, _⟩ => rfl

/-- Four runs of 3072 columns are all 12288. -/
theorem four (f : ℕ → EReal) : ∑ e : Fin 4, ∑ t ∈ Finset.range 3072, f (3072 * e.val + t) = ∑ t ∈ Finset.range 12288, f t := by
  rw [Fin.sum_univ_four, show 12288 = 3072 + 3072 + 3072 + 3072 from rfl, sum_block, sum_block, sum_block]
  simp

theorem two_shares (x : S1536x1536.Idx → EReal) (u : (⟨2, ![1536, 12288]⟩ : Shape).Idx → EReal) (w : (⟨2, ![12288, 1536]⟩ : Shape).Idx → EReal)
    (h1 : Layout.Tiles ⟨2, ![1536, 3072]⟩ ⟨2, ![1536, 12288]⟩ 1 4) (h2 : Layout.Tiles ⟨2, ![3072, 1536]⟩ ⟨2, ![12288, 1536]⟩ 0 4) {r n : ℕ} (hr : r < 1536) (hn : n < 1536) :
    ∑ e : Fin 4, two 3072 x (Layout.block ⟨2, ![1536, 3072]⟩ ⟨2, ![1536, 12288]⟩ 1 4 e u h1) (Layout.block ⟨2, ![3072, 1536]⟩ ⟨2, ![12288, 1536]⟩ 0 4 e w h2) r n
      = two 12288 x u w r n := by
  unfold two
  rw [← four (fun t => hid x u r t * ent (m := 12288) (n := 1536) w t n)]
  refine Finset.sum_congr rfl fun e _ => Finset.sum_congr rfl fun t ht => ?_
  have ht' : t < 3072 := Finset.mem_range.1 ht
  rw [ent_rows w h2 e ht' hn]
  refine congrArg (· * ent (m := 12288) (n := 1536) w (3072 * e.val + t) n) ?_
  unfold hid
  refine congrArg (max · (0 : EReal)) ?_
  refine Finset.sum_congr rfl fun k hk => ?_
  rw [ent_cols u h1 e (Finset.mem_range.1 hk) ht']

/-- The activations are read whole. -/
theorem xIn_eq (m : (ℓ : Loc nD τ sig) → Buf (Elt Ideal) ℓ) (ρ : Dev nD → PrngReg) (c : Dev nD) : xIn m ρ c = m ((c : Thread nD τ).loc main_arg0) := by
  have hv : ∀ v : ℕ, 0 * 1536 + 1 * v = v := fun v => by omega
  funext y
  refine congrArg (m ((c : Thread nD τ).loc main_arg0)) (funext fun a => Fin.ext ?_)
  match a with
  | ⟨0, _⟩ => exact hv (y 0).val
  | ⟨1, _⟩ => exact hv (y 1).val

/-- The two programs, from the same arguments, end with the same result. -/
theorem same_result : Cert.algebraic_KernelIdeal_ReferenceIdeal := by
  intro m g m' g' _ hin
  refine ⟨Whole.mlp (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (run_main (F := Ideal) m g).mono fun r h c => ?_
    obtain ⟨ho, h0, h1, h2⟩ := h.1 c
    refine ⟨ho.trans ?_, h0, h1, h2⟩
    have ex : xIn m g = fun _ => m' (((0 : Dev Cert.ReferenceIdeal.nD).tc : Thread Cert.ReferenceIdeal.nD Cert.ReferenceIdeal.τ).loc Cert.ReferenceIdeal.main_arg0) :=
      funext fun d => (xIn_eq m g d).trans (hin d).1
    have e1 : w1In m = fun d : Dev nD => Layout.block ⟨2, ![1536, 3072]⟩ ⟨2, ![1536, 12288]⟩ 1 4 d
        (m' (((0 : Dev Cert.ReferenceIdeal.nD).tc : Thread Cert.ReferenceIdeal.nD Cert.ReferenceIdeal.τ).loc Cert.ReferenceIdeal.main_arg1)) := funext fun d => (hin d).2.1
    have e2 : w2In m = fun d : Dev nD => Layout.block ⟨2, ![3072, 1536]⟩ ⟨2, ![12288, 1536]⟩ 0 4 d
        (m' (((0 : Dev Cert.ReferenceIdeal.nD).tc : Thread Cert.ReferenceIdeal.nD Cert.ReferenceIdeal.τ).loc Cert.ReferenceIdeal.main_arg2)) := funext fun d => (hin d).2.2
    unfold vv
    rw [ex, e1, e2]
    generalize m' (((0 : Dev Cert.ReferenceIdeal.nD).tc : Thread Cert.ReferenceIdeal.nD Cert.ReferenceIdeal.τ).loc Cert.ReferenceIdeal.main_arg0) = x
    generalize m' (((0 : Dev Cert.ReferenceIdeal.nD).tc : Thread Cert.ReferenceIdeal.nD Cert.ReferenceIdeal.τ).loc Cert.ReferenceIdeal.main_arg1) = u
    generalize m' (((0 : Dev Cert.ReferenceIdeal.nD).tc : Thread Cert.ReferenceIdeal.nD Cert.ReferenceIdeal.τ).loc Cert.ReferenceIdeal.main_arg2) = w
    refine funext fun (y : (⟨2, ![1536, 1536]⟩ : Shape).Idx) => ?_
    rw [eq_ix2 y]
    refine (ent_val (m := 1536) (n := 1536) (outV (F := Ideal) _) (y 0) (y 1)).symm.trans (Eq.trans ?_ (ent_val (m := 1536) (n := 1536) (Whole.mlp (F := Ideal) x u w) (y 0) (y 1)))
    exact (ent_out _ _ _ (y 0).isLt (y 1).isLt).trans ((two_shares x u w _ _ (y 0).isLt (y 1).isLt).trans (ent_mlp x u w (y 0).isLt (y 1).isLt).symm)
  · exact (Whole.run_main (F := Ideal) m' g').mono fun r h => h 0

end Cert.RingMlp

end
-- ==== Proof.lean ====
/- The certificate's claims, put together: the three frames (Proof/Frames, Proof/RefRun), what the idealization keeps, and the equality of the results (Proof/Same). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.RefRun
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.RingMlp.frame_kernel, Cert.RingMlp.frame_ideal, Cert.RingMlp.Whole.frame, trivial, Cert.RingMlp.same_result⟩

end Cert.Proof

end
